-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def Pre_FfnSecond (m : (ℓ : Loc Cert.FfnSecond.nD Cert.FfnSecond.τ Cert.FfnSecond.sig) → Buf (Elt Bits) ℓ) : Prop :=
  True

def Pre_FfnSecondIdeal (m : (ℓ : Loc Cert.FfnSecondIdeal.nD Cert.FfnSecondIdeal.τ Cert.FfnSecondIdeal.sig) → Buf (Elt Ideal) ℓ) : Prop :=
  True

def Pre_FfnSecondReferenceIdeal (m : (ℓ : Loc Cert.FfnSecondReferenceIdeal.nD Cert.FfnSecondReferenceIdeal.τ Cert.FfnSecondReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Rotary (m : (ℓ : Loc Cert.Rotary.nD Cert.Rotary.τ Cert.Rotary.sig) → Buf (Elt Bits) ℓ) : Prop :=
  True

def Pre_RotaryIdeal (m : (ℓ : Loc Cert.RotaryIdeal.nD Cert.RotaryIdeal.τ Cert.RotaryIdeal.sig) → Buf (Elt Ideal) ℓ) : Prop :=
  True

def Pre_RotaryReferenceIdeal (m : (ℓ : Loc Cert.RotaryReferenceIdeal.nD Cert.RotaryReferenceIdeal.τ Cert.RotaryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6)
      ∧ r.2.mem ((c.tc : Thread Cert.FfnFirst.nD Cert.FfnFirst.τ).loc Cert.FfnFirst.main_arg7) = m ((c.tc : Thread Cert.FfnFirst.nD Cert.FfnFirst.τ).loc Cert.FfnFirst.main_arg7)
      ∧ r.2.mem ((c.tc : Thread Cert.FfnFirst.nD Cert.FfnFirst.τ).loc Cert.FfnFirst.main_arg8) = m ((c.tc : Thread Cert.FfnFirst.nD Cert.FfnFirst.τ).loc Cert.FfnFirst.main_arg8)
      ∧ r.2.mem ((c.tc : Thread Cert.FfnFirst.nD Cert.FfnFirst.τ).loc Cert.FfnFirst.main_arg9) = m ((c.tc : Thread Cert.FfnFirst.nD Cert.FfnFirst.τ).loc Cert.FfnFirst.main_arg9)
      ∧ r.2.mem ((c.tc : Thread Cert.FfnFirst.nD Cert.FfnFirst.τ).loc Cert.FfnFirst.main_arg10) = m ((c.tc : Thread Cert.FfnFirst.nD Cert.FfnFirst.τ).loc Cert.FfnFirst.main_arg10)
      ∧ r.2.mem ((c.tc : Thread Cert.FfnFirst.nD Cert.FfnFirst.τ).loc Cert.FfnFirst.main_arg11) = m ((c.tc : Thread Cert.FfnFirst.nD Cert.FfnFirst.τ).loc Cert.FfnFirst.main_arg11)
      ∧ r.2.mem ((c.tc : Thread Cert.FfnFirst.nD Cert.FfnFirst.τ).loc Cert.FfnFirst.main_arg12) = m ((c.tc : Thread Cert.FfnFirst.nD Cert.FfnFirst.τ).loc Cert.FfnFirst.main_arg12)
      ∧ r.2.mem ((c.tc : Thread Cert.FfnFirst.nD Cert.FfnFirst.τ).loc Cert.FfnFirst.main_arg13) = m ((c.tc : Thread Cert.FfnFirst.nD Cert.FfnFirst.τ).loc Cert.FfnFirst.main_arg13)
      ∧ r.2.mem ((c.tc : Thread Cert.FfnFirst.nD Cert.FfnFirst.τ).loc Cert.FfnFirst.main_arg14) = m ((c.tc : Thread Cert.FfnFirst.nD Cert.FfnFirst.τ).loc Cert.FfnFirst.main_arg14))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
      ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7)
      ∧ r.2.mem ((c.tc : Thread Cert.FfnFirstIdeal.nD Cert.FfnFirstIdeal.τ).loc Cert.FfnFirstIdeal.main_arg8) = m ((c.tc : Thread Cert.FfnFirstIdeal.nD Cert.FfnFirstIdeal.τ).loc Cert.FfnFirstIdeal.main_arg8)
      ∧ r.2.mem ((c.tc : Thread Cert.FfnFirstIdeal.nD Cert.FfnFirstIdeal.τ).loc Cert.FfnFirstIdeal.main_arg9) = m ((c.tc : Thread Cert.FfnFirstIdeal.nD Cert.FfnFirstIdeal.τ).loc Cert.FfnFirstIdeal.main_arg9)
      ∧ r.2.mem ((c.tc : Thread Cert.FfnFirstIdeal.nD Cert.FfnFirstIdeal.τ).loc Cert.FfnFirstIdeal.main_arg10) = m ((c.tc : Thread Cert.FfnFirstIdeal.nD Cert.FfnFirstIdeal.τ).loc Cert.FfnFirstIdeal.main_arg10)
      ∧ r.2.mem ((c.tc : Thread Cert.FfnFirstIdeal.nD Cert.FfnFirstIdeal.τ).loc Cert.FfnFirstIdeal.main_arg11) = m ((c.tc : Thread Cert.FfnFirstIdeal.nD Cert.FfnFirstIdeal.τ).loc Cert.FfnFirstIdeal.main_arg11)
      ∧ r.2.mem ((c.tc : Thread Cert.FfnFirstIdeal.nD Cert.FfnFirstIdeal.τ).loc Cert.FfnFirstIdeal.main_arg12) = m ((c.tc : Thread Cert.FfnFirstIdeal.nD Cert.FfnFirstIdeal.τ).loc Cert.FfnFirstIdeal.main_arg12)
      ∧ r.2.mem ((c.tc : Thread Cert.FfnFirstIdeal.nD Cert.FfnFirstIdeal.τ).loc Cert.FfnFirstIdeal.main_arg13) = m ((c.tc : Thread Cert.FfnFirstIdeal.nD Cert.FfnFirstIdeal.τ).loc Cert.FfnFirstIdeal.main_arg13)
      ∧ r.2.mem ((c.tc : Thread Cert.FfnFirstIdeal.nD Cert.FfnFirstIdeal.τ).loc Cert.FfnFirstIdeal.main_arg14) = m ((c.tc : Thread Cert.FfnFirstIdeal.nD Cert.FfnFirstIdeal.τ).loc Cert.FfnFirstIdeal.main_arg14))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4)
      ∧ r.2.mem ((c.tc : Thread Cert.FfnFirstReferenceIdeal.nD Cert.FfnFirstReferenceIdeal.τ).loc Cert.FfnFirstReferenceIdeal.main_arg5) = m ((c.tc : Thread Cert.FfnFirstReferenceIdeal.nD Cert.FfnFirstReferenceIdeal.τ).loc Cert.FfnFirstReferenceIdeal.main_arg5)
      ∧ r.2.mem ((c.tc : Thread Cert.FfnFirstReferenceIdeal.nD Cert.FfnFirstReferenceIdeal.τ).loc Cert.FfnFirstReferenceIdeal.main_arg6) = m ((c.tc : Thread Cert.FfnFirstReferenceIdeal.nD Cert.FfnFirstReferenceIdeal.τ).loc Cert.FfnFirstReferenceIdeal.main_arg6)
      ∧ r.2.mem ((c.tc : Thread Cert.FfnFirstReferenceIdeal.nD Cert.FfnFirstReferenceIdeal.τ).loc Cert.FfnFirstReferenceIdeal.main_arg7) = m ((c.tc : Thread Cert.FfnFirstReferenceIdeal.nD Cert.FfnFirstReferenceIdeal.τ).loc Cert.FfnFirstReferenceIdeal.main_arg7)
      ∧ r.2.mem ((c.tc : Thread Cert.FfnFirstReferenceIdeal.nD Cert.FfnFirstReferenceIdeal.τ).loc Cert.FfnFirstReferenceIdeal.main_arg8) = m ((c.tc : Thread Cert.FfnFirstReferenceIdeal.nD Cert.FfnFirstReferenceIdeal.τ).loc Cert.FfnFirstReferenceIdeal.main_arg8)
      ∧ r.2.mem ((c.tc : Thread Cert.FfnFirstReferenceIdeal.nD Cert.FfnFirstReferenceIdeal.τ).loc Cert.FfnFirstReferenceIdeal.main_arg9) = m ((c.tc : Thread Cert.FfnFirstReferenceIdeal.nD Cert.FfnFirstReferenceIdeal.τ).loc Cert.FfnFirstReferenceIdeal.main_arg9)
      ∧ r.2.mem ((c.tc : Thread Cert.FfnFirstReferenceIdeal.nD Cert.FfnFirstReferenceIdeal.τ).loc Cert.FfnFirstReferenceIdeal.main_arg10) = m ((c.tc : Thread Cert.FfnFirstReferenceIdeal.nD Cert.FfnFirstReferenceIdeal.τ).loc Cert.FfnFirstReferenceIdeal.main_arg10)
      ∧ r.2.mem ((c.tc : Thread Cert.FfnFirstReferenceIdeal.nD Cert.FfnFirstReferenceIdeal.τ).loc Cert.FfnFirstReferenceIdeal.main_arg11) = m ((c.tc : Thread Cert.FfnFirstReferenceIdeal.nD Cert.FfnFirstReferenceIdeal.τ).loc Cert.FfnFirstReferenceIdeal.main_arg11)
      ∧ r.2.mem ((c.tc : Thread Cert.FfnFirstReferenceIdeal.nD Cert.FfnFirstReferenceIdeal.τ).loc Cert.FfnFirstReferenceIdeal.main_arg12) = m ((c.tc : Thread Cert.FfnFirstReferenceIdeal.nD Cert.FfnFirstReferenceIdeal.τ).loc Cert.FfnFirstReferenceIdeal.main_arg12)
      ∧ r.2.mem ((c.tc : Thread Cert.FfnFirstReferenceIdeal.nD Cert.FfnFirstReferenceIdeal.τ).loc Cert.FfnFirstReferenceIdeal.main_arg13) = m ((c.tc : Thread Cert.FfnFirstReferenceIdeal.nD Cert.FfnFirstReferenceIdeal.τ).loc Cert.FfnFirstReferenceIdeal.main_arg13)
      ∧ r.2.mem ((c.tc : Thread Cert.FfnFirstReferenceIdeal.nD Cert.FfnFirstReferenceIdeal.τ).loc Cert.FfnFirstReferenceIdeal.main_arg14) = m ((c.tc : Thread Cert.FfnFirstReferenceIdeal.nD Cert.FfnFirstReferenceIdeal.τ).loc Cert.FfnFirstReferenceIdeal.main_arg14))
      ∧ r.2.sem = fun _ => 0)

def quiescent_FfnSecond [hFfnSecond : Cert.FfnSecond.Facts] : Prop :=
  ∀ (m : (ℓ : Loc Cert.FfnSecond.nD Cert.FfnSecond.τ Cert.FfnSecond.sig) → Buf (Elt Bits) ℓ) (g : Dev Cert.FfnSecond.nD → PrngReg), Pre_FfnSecond m →
    θ_run (Cert.FfnSecond.defs (F := Bits)) (onTc (τ := Cert.FfnSecond.τ) (Cert.FfnSecond.main (F := Bits))) ⟨m, fun _ => 0, g⟩ (fun r => (∀ c : Dev Cert.FfnSecond.nD,
      r.2.mem ((c.tc : Thread Cert.FfnSecond.nD Cert.FfnSecond.τ).loc Cert.FfnSecond.main_arg0) = m ((c.tc : Thread Cert.FfnSecond.nD Cert.FfnSecond.τ).loc Cert.FfnSecond.main_arg0)
      ∧ r.2.mem ((c.tc : Thread Cert.FfnSecond.nD Cert.FfnSecond.τ).loc Cert.FfnSecond.main_arg1) = m ((c.tc : Thread Cert.FfnSecond.nD Cert.FfnSecond.τ).loc Cert.FfnSecond.main_arg1)
      ∧ r.2.mem ((c.tc : Thread Cert.FfnSecond.nD Cert.FfnSecond.τ).loc Cert.FfnSecond.main_arg2) = m ((c.tc : Thread Cert.FfnSecond.nD Cert.FfnSecond.τ).loc Cert.FfnSecond.main_arg2)
      ∧ r.2.mem ((c.tc : Thread Cert.FfnSecond.nD Cert.FfnSecond.τ).loc Cert.FfnSecond.main_arg3) = m ((c.tc : Thread Cert.FfnSecond.nD Cert.FfnSecond.τ).loc Cert.FfnSecond.main_arg3)
      ∧ r.2.mem ((c.tc : Thread Cert.FfnSecond.nD Cert.FfnSecond.τ).loc Cert.FfnSecond.main_arg4) = m ((c.tc : Thread Cert.FfnSecond.nD Cert.FfnSecond.τ).loc Cert.FfnSecond.main_arg4)
      ∧ r.2.mem ((c.tc : Thread Cert.FfnSecond.nD Cert.FfnSecond.τ).loc Cert.FfnSecond.main_arg5) = m ((c.tc : Thread Cert.FfnSecond.nD Cert.FfnSecond.τ).loc Cert.FfnSecond.main_arg5)
      ∧ r.2.mem ((c.tc : Thread Cert.FfnSecond.nD Cert.FfnSecond.τ).loc Cert.FfnSecond.main_arg6) = m ((c.tc : Thread Cert.FfnSecond.nD Cert.FfnSecond.τ).loc Cert.FfnSecond.main_arg6)
      ∧ r.2.mem ((c.tc : Thread Cert.FfnSecond.nD Cert.FfnSecond.τ).loc Cert.FfnSecond.main_arg7) = m ((c.tc : Thread Cert.FfnSecond.nD Cert.FfnSecond.τ).loc Cert.FfnSecond.main_arg7)
      ∧ r.2.mem ((c.tc : Thread Cert.FfnSecond.nD Cert.FfnSecond.τ).loc Cert.FfnSecond.main_arg8) = m ((c.tc : Thread Cert.FfnSecond.nD Cert.FfnSecond.τ).loc Cert.FfnSecond.main_arg8))
      ∧ r.2.sem = fun _ => 0)

def quiescent_FfnSecondIdeal [hFfnSecondIdeal : Cert.FfnSecondIdeal.Facts] : Prop :=
  ∀ (m : (ℓ : Loc Cert.FfnSecondIdeal.nD Cert.FfnSecondIdeal.τ Cert.FfnSecondIdeal.sig) → Buf (Elt Ideal) ℓ) (g : Dev Cert.FfnSecondIdeal.nD → PrngReg), Pre_FfnSecondIdeal m →
    θ_run (Cert.FfnSecondIdeal.defs (F := Ideal)) (onTc (τ := Cert.FfnSecondIdeal.τ) (Cert.FfnSecondIdeal.main (F := Ideal))) ⟨m, fun _ => 0, g⟩ (fun r => (∀ c : Dev Cert.FfnSecondIdeal.nD,
      r.2.mem ((c.tc : Thread Cert.FfnSecondIdeal.nD Cert.FfnSecondIdeal.τ).loc Cert.FfnSecondIdeal.main_arg0) = m ((c.tc : Thread Cert.FfnSecondIdeal.nD Cert.FfnSecondIdeal.τ).loc Cert.FfnSecondIdeal.main_arg0)
      ∧ r.2.mem ((c.tc : Thread Cert.FfnSecondIdeal.nD Cert.FfnSecondIdeal.τ).loc Cert.FfnSecondIdeal.main_arg1) = m ((c.tc : Thread Cert.FfnSecondIdeal.nD Cert.FfnSecondIdeal.τ).loc Cert.FfnSecondIdeal.main_arg1)
      ∧ r.2.mem ((c.tc : Thread Cert.FfnSecondIdeal.nD Cert.FfnSecondIdeal.τ).loc Cert.FfnSecondIdeal.main_arg2) = m ((c.tc : Thread Cert.FfnSecondIdeal.nD Cert.FfnSecondIdeal.τ).loc Cert.FfnSecondIdeal.main_arg2)
      ∧ r.2.mem ((c.tc : Thread Cert.FfnSecondIdeal.nD Cert.FfnSecondIdeal.τ).loc Cert.FfnSecondIdeal.main_arg3) = m ((c.tc : Thread Cert.FfnSecondIdeal.nD Cert.FfnSecondIdeal.τ).loc Cert.FfnSecondIdeal.main_arg3)
      ∧ r.2.mem ((c.tc : Thread Cert.FfnSecondIdeal.nD Cert.FfnSecondIdeal.τ).loc Cert.FfnSecondIdeal.main_arg4) = m ((c.tc : Thread Cert.FfnSecondIdeal.nD Cert.FfnSecondIdeal.τ).loc Cert.FfnSecondIdeal.main_arg4)
      ∧ r.2.mem ((c.tc : Thread Cert.FfnSecondIdeal.nD Cert.FfnSecondIdeal.τ).loc Cert.FfnSecondIdeal.main_arg5) = m ((c.tc : Thread Cert.FfnSecondIdeal.nD Cert.FfnSecondIdeal.τ).loc Cert.FfnSecondIdeal.main_arg5)
      ∧ r.2.mem ((c.tc : Thread Cert.FfnSecondIdeal.nD Cert.FfnSecondIdeal.τ).loc Cert.FfnSecondIdeal.main_arg6) = m ((c.tc : Thread Cert.FfnSecondIdeal.nD Cert.FfnSecondIdeal.τ).loc Cert.FfnSecondIdeal.main_arg6)
      ∧ r.2.mem ((c.tc : Thread Cert.FfnSecondIdeal.nD Cert.FfnSecondIdeal.τ).loc Cert.FfnSecondIdeal.main_arg7) = m ((c.tc : Thread Cert.FfnSecondIdeal.nD Cert.FfnSecondIdeal.τ).loc Cert.FfnSecondIdeal.main_arg7)
      ∧ r.2.mem ((c.tc : Thread Cert.FfnSecondIdeal.nD Cert.FfnSecondIdeal.τ).loc Cert.FfnSecondIdeal.main_arg8) = m ((c.tc : Thread Cert.FfnSecondIdeal.nD Cert.FfnSecondIdeal.τ).loc Cert.FfnSecondIdeal.main_arg8))
      ∧ r.2.sem = fun _ => 0)

def quiescent_FfnSecondReferenceIdeal [hFfnSecondReferenceIdeal : Cert.FfnSecondReferenceIdeal.Facts] : Prop :=
  ∀ (m : (ℓ : Loc Cert.FfnSecondReferenceIdeal.nD Cert.FfnSecondReferenceIdeal.τ Cert.FfnSecondReferenceIdeal.sig) → Buf (Elt Ideal) ℓ) (g : Dev Cert.FfnSecondReferenceIdeal.nD → PrngReg), Pre_FfnSecondReferenceIdeal m →
    θ_run (Cert.FfnSecondReferenceIdeal.defs (F := Ideal)) (onTc (τ := Cert.FfnSecondReferenceIdeal.τ) (Cert.FfnSecondReferenceIdeal.main (F := Ideal))) ⟨m, fun _ => 0, g⟩ (fun r => (∀ c : Dev Cert.FfnSecondReferenceIdeal.nD,
      r.2.mem ((c.tc : Thread Cert.FfnSecondReferenceIdeal.nD Cert.FfnSecondReferenceIdeal.τ).loc Cert.FfnSecondReferenceIdeal.main_arg0) = m ((c.tc : Thread Cert.FfnSecondReferenceIdeal.nD Cert.FfnSecondReferenceIdeal.τ).loc Cert.FfnSecondReferenceIdeal.main_arg0)
      ∧ r.2.mem ((c.tc : Thread Cert.FfnSecondReferenceIdeal.nD Cert.FfnSecondReferenceIdeal.τ).loc Cert.FfnSecondReferenceIdeal.main_arg1) = m ((c.tc : Thread Cert.FfnSecondReferenceIdeal.nD Cert.FfnSecondReferenceIdeal.τ).loc Cert.FfnSecondReferenceIdeal.main_arg1)
      ∧ r.2.mem ((c.tc : Thread Cert.FfnSecondReferenceIdeal.nD Cert.FfnSecondReferenceIdeal.τ).loc Cert.FfnSecondReferenceIdeal.main_arg2) = m ((c.tc : Thread Cert.FfnSecondReferenceIdeal.nD Cert.FfnSecondReferenceIdeal.τ).loc Cert.FfnSecondReferenceIdeal.main_arg2)
      ∧ r.2.mem ((c.tc : Thread Cert.FfnSecondReferenceIdeal.nD Cert.FfnSecondReferenceIdeal.τ).loc Cert.FfnSecondReferenceIdeal.main_arg3) = m ((c.tc : Thread Cert.FfnSecondReferenceIdeal.nD Cert.FfnSecondReferenceIdeal.τ).loc Cert.FfnSecondReferenceIdeal.main_arg3)
      ∧ r.2.mem ((c.tc : Thread Cert.FfnSecondReferenceIdeal.nD Cert.FfnSecondReferenceIdeal.τ).loc Cert.FfnSecondReferenceIdeal.main_arg4) = m ((c.tc : Thread Cert.FfnSecondReferenceIdeal.nD Cert.FfnSecondReferenceIdeal.τ).loc Cert.FfnSecondReferenceIdeal.main_arg4)
      ∧ r.2.mem ((c.tc : Thread Cert.FfnSecondReferenceIdeal.nD Cert.FfnSecondReferenceIdeal.τ).loc Cert.FfnSecondReferenceIdeal.main_arg5) = m ((c.tc : Thread Cert.FfnSecondReferenceIdeal.nD Cert.FfnSecondReferenceIdeal.τ).loc Cert.FfnSecondReferenceIdeal.main_arg5)
      ∧ r.2.mem ((c.tc : Thread Cert.FfnSecondReferenceIdeal.nD Cert.FfnSecondReferenceIdeal.τ).loc Cert.FfnSecondReferenceIdeal.main_arg6) = m ((c.tc : Thread Cert.FfnSecondReferenceIdeal.nD Cert.FfnSecondReferenceIdeal.τ).loc Cert.FfnSecondReferenceIdeal.main_arg6)
      ∧ r.2.mem ((c.tc : Thread Cert.FfnSecondReferenceIdeal.nD Cert.FfnSecondReferenceIdeal.τ).loc Cert.FfnSecondReferenceIdeal.main_arg7) = m ((c.tc : Thread Cert.FfnSecondReferenceIdeal.nD Cert.FfnSecondReferenceIdeal.τ).loc Cert.FfnSecondReferenceIdeal.main_arg7)
      ∧ r.2.mem ((c.tc : Thread Cert.FfnSecondReferenceIdeal.nD Cert.FfnSecondReferenceIdeal.τ).loc Cert.FfnSecondReferenceIdeal.main_arg8) = m ((c.tc : Thread Cert.FfnSecondReferenceIdeal.nD Cert.FfnSecondReferenceIdeal.τ).loc Cert.FfnSecondReferenceIdeal.main_arg8))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def quiescent_Rotary [hRotary : Cert.Rotary.Facts] : Prop :=
  ∀ (m : (ℓ : Loc Cert.Rotary.nD Cert.Rotary.τ Cert.Rotary.sig) → Buf (Elt Bits) ℓ) (g : Dev Cert.Rotary.nD → PrngReg), Pre_Rotary m →
    θ_run (Cert.Rotary.defs (F := Bits)) (onTc (τ := Cert.Rotary.τ) (Cert.Rotary.main (F := Bits))) ⟨m, fun _ => 0, g⟩ (fun r => (∀ c : Dev Cert.Rotary.nD,
      r.2.mem ((c.tc : Thread Cert.Rotary.nD Cert.Rotary.τ).loc Cert.Rotary.main_arg0) = m ((c.tc : Thread Cert.Rotary.nD Cert.Rotary.τ).loc Cert.Rotary.main_arg0)
      ∧ r.2.mem ((c.tc : Thread Cert.Rotary.nD Cert.Rotary.τ).loc Cert.Rotary.main_arg1) = m ((c.tc : Thread Cert.Rotary.nD Cert.Rotary.τ).loc Cert.Rotary.main_arg1)
      ∧ r.2.mem ((c.tc : Thread Cert.Rotary.nD Cert.Rotary.τ).loc Cert.Rotary.main_arg2) = m ((c.tc : Thread Cert.Rotary.nD Cert.Rotary.τ).loc Cert.Rotary.main_arg2)
      ∧ r.2.mem ((c.tc : Thread Cert.Rotary.nD Cert.Rotary.τ).loc Cert.Rotary.main_arg3) = m ((c.tc : Thread Cert.Rotary.nD Cert.Rotary.τ).loc Cert.Rotary.main_arg3))
      ∧ r.2.sem = fun _ => 0)

def quiescent_RotaryIdeal [hRotaryIdeal : Cert.RotaryIdeal.Facts] : Prop :=
  ∀ (m : (ℓ : Loc Cert.RotaryIdeal.nD Cert.RotaryIdeal.τ Cert.RotaryIdeal.sig) → Buf (Elt Ideal) ℓ) (g : Dev Cert.RotaryIdeal.nD → PrngReg), Pre_RotaryIdeal m →
    θ_run (Cert.RotaryIdeal.defs (F := Ideal)) (onTc (τ := Cert.RotaryIdeal.τ) (Cert.RotaryIdeal.main (F := Ideal))) ⟨m, fun _ => 0, g⟩ (fun r => (∀ c : Dev Cert.RotaryIdeal.nD,
      r.2.mem ((c.tc : Thread Cert.RotaryIdeal.nD Cert.RotaryIdeal.τ).loc Cert.RotaryIdeal.main_arg0) = m ((c.tc : Thread Cert.RotaryIdeal.nD Cert.RotaryIdeal.τ).loc Cert.RotaryIdeal.main_arg0)
      ∧ r.2.mem ((c.tc : Thread Cert.RotaryIdeal.nD Cert.RotaryIdeal.τ).loc Cert.RotaryIdeal.main_arg1) = m ((c.tc : Thread Cert.RotaryIdeal.nD Cert.RotaryIdeal.τ).loc Cert.RotaryIdeal.main_arg1)
      ∧ r.2.mem ((c.tc : Thread Cert.RotaryIdeal.nD Cert.RotaryIdeal.τ).loc Cert.RotaryIdeal.main_arg2) = m ((c.tc : Thread Cert.RotaryIdeal.nD Cert.RotaryIdeal.τ).loc Cert.RotaryIdeal.main_arg2)
      ∧ r.2.mem ((c.tc : Thread Cert.RotaryIdeal.nD Cert.RotaryIdeal.τ).loc Cert.RotaryIdeal.main_arg3) = m ((c.tc : Thread Cert.RotaryIdeal.nD Cert.RotaryIdeal.τ).loc Cert.RotaryIdeal.main_arg3))
      ∧ r.2.sem = fun _ => 0)

def quiescent_RotaryReferenceIdeal [hRotaryReferenceIdeal : Cert.RotaryReferenceIdeal.Facts] : Prop :=
  ∀ (m : (ℓ : Loc Cert.RotaryReferenceIdeal.nD Cert.RotaryReferenceIdeal.τ Cert.RotaryReferenceIdeal.sig) → Buf (Elt Ideal) ℓ) (g : Dev Cert.RotaryReferenceIdeal.nD → PrngReg), Pre_RotaryReferenceIdeal m →
    θ_run (Cert.RotaryReferenceIdeal.defs (F := Ideal)) (onTc (τ := Cert.RotaryReferenceIdeal.τ) (Cert.RotaryReferenceIdeal.main (F := Ideal))) ⟨m, fun _ => 0, g⟩ (fun r => (∀ c : Dev Cert.RotaryReferenceIdeal.nD,
      r.2.mem ((c.tc : Thread Cert.RotaryReferenceIdeal.nD Cert.RotaryReferenceIdeal.τ).loc Cert.RotaryReferenceIdeal.main_arg0) = m ((c.tc : Thread Cert.RotaryReferenceIdeal.nD Cert.RotaryReferenceIdeal.τ).loc Cert.RotaryReferenceIdeal.main_arg0)
      ∧ r.2.mem ((c.tc : Thread Cert.RotaryReferenceIdeal.nD Cert.RotaryReferenceIdeal.τ).loc Cert.RotaryReferenceIdeal.main_arg1) = m ((c.tc : Thread Cert.RotaryReferenceIdeal.nD Cert.RotaryReferenceIdeal.τ).loc Cert.RotaryReferenceIdeal.main_arg1)
      ∧ r.2.mem ((c.tc : Thread Cert.RotaryReferenceIdeal.nD Cert.RotaryReferenceIdeal.τ).loc Cert.RotaryReferenceIdeal.main_arg2) = m ((c.tc : Thread Cert.RotaryReferenceIdeal.nD Cert.RotaryReferenceIdeal.τ).loc Cert.RotaryReferenceIdeal.main_arg2)
      ∧ r.2.mem ((c.tc : Thread Cert.RotaryReferenceIdeal.nD Cert.RotaryReferenceIdeal.τ).loc Cert.RotaryReferenceIdeal.main_arg3) = m ((c.tc : Thread Cert.RotaryReferenceIdeal.nD Cert.RotaryReferenceIdeal.τ).loc Cert.RotaryReferenceIdeal.main_arg3))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "xscale" .f32 0x3DB8AA3B#32 (((1 / 16) * (Real.log 2)⁻¹ : ℝ) : EReal)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v42) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_FfnFirst_FfnFirstIdeal : Prop :=
  True

def algebraic_FfnFirstIdeal_FfnFirstReferenceIdeal [hFfnFirstIdeal : Cert.FfnFirstIdeal.Facts] [hFfnFirstReferenceIdeal : Cert.FfnFirstReferenceIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)
      ∧ m' ((c.tc : Thread Cert.FfnFirstReferenceIdeal.nD Cert.FfnFirstReferenceIdeal.τ).loc Cert.FfnFirstReferenceIdeal.main_arg4) = m ((c.tc : Thread Cert.FfnFirstIdeal.nD Cert.FfnFirstIdeal.τ).loc Cert.FfnFirstIdeal.main_arg4)
      ∧ m' ((c.tc : Thread Cert.FfnFirstReferenceIdeal.nD Cert.FfnFirstReferenceIdeal.τ).loc Cert.FfnFirstReferenceIdeal.main_arg5) = m ((c.tc : Thread Cert.FfnFirstIdeal.nD Cert.FfnFirstIdeal.τ).loc Cert.FfnFirstIdeal.main_arg5)
      ∧ m' ((c.tc : Thread Cert.FfnFirstReferenceIdeal.nD Cert.FfnFirstReferenceIdeal.τ).loc Cert.FfnFirstReferenceIdeal.main_arg6) = m ((c.tc : Thread Cert.FfnFirstIdeal.nD Cert.FfnFirstIdeal.τ).loc Cert.FfnFirstIdeal.main_arg6)
      ∧ m' ((c.tc : Thread Cert.FfnFirstReferenceIdeal.nD Cert.FfnFirstReferenceIdeal.τ).loc Cert.FfnFirstReferenceIdeal.main_arg7) = m ((c.tc : Thread Cert.FfnFirstIdeal.nD Cert.FfnFirstIdeal.τ).loc Cert.FfnFirstIdeal.main_arg7)
      ∧ m' ((c.tc : Thread Cert.FfnFirstReferenceIdeal.nD Cert.FfnFirstReferenceIdeal.τ).loc Cert.FfnFirstReferenceIdeal.main_arg8) = m ((c.tc : Thread Cert.FfnFirstIdeal.nD Cert.FfnFirstIdeal.τ).loc Cert.FfnFirstIdeal.main_arg8)
      ∧ m' ((c.tc : Thread Cert.FfnFirstReferenceIdeal.nD Cert.FfnFirstReferenceIdeal.τ).loc Cert.FfnFirstReferenceIdeal.main_arg9) = m ((c.tc : Thread Cert.FfnFirstIdeal.nD Cert.FfnFirstIdeal.τ).loc Cert.FfnFirstIdeal.main_arg9)
      ∧ m' ((c.tc : Thread Cert.FfnFirstReferenceIdeal.nD Cert.FfnFirstReferenceIdeal.τ).loc Cert.FfnFirstReferenceIdeal.main_arg10) = m ((c.tc : Thread Cert.FfnFirstIdeal.nD Cert.FfnFirstIdeal.τ).loc Cert.FfnFirstIdeal.main_arg10)
      ∧ m' ((c.tc : Thread Cert.FfnFirstReferenceIdeal.nD Cert.FfnFirstReferenceIdeal.τ).loc Cert.FfnFirstReferenceIdeal.main_arg11) = m ((c.tc : Thread Cert.FfnFirstIdeal.nD Cert.FfnFirstIdeal.τ).loc Cert.FfnFirstIdeal.main_arg11)
      ∧ m' ((c.tc : Thread Cert.FfnFirstReferenceIdeal.nD Cert.FfnFirstReferenceIdeal.τ).loc Cert.FfnFirstReferenceIdeal.main_arg12) = m ((c.tc : Thread Cert.FfnFirstIdeal.nD Cert.FfnFirstIdeal.τ).loc Cert.FfnFirstIdeal.main_arg12)
      ∧ m' ((c.tc : Thread Cert.FfnFirstReferenceIdeal.nD Cert.FfnFirstReferenceIdeal.τ).loc Cert.FfnFirstReferenceIdeal.main_arg13) = m ((c.tc : Thread Cert.FfnFirstIdeal.nD Cert.FfnFirstIdeal.τ).loc Cert.FfnFirstIdeal.main_arg13)
      ∧ m' ((c.tc : Thread Cert.FfnFirstReferenceIdeal.nD Cert.FfnFirstReferenceIdeal.τ).loc Cert.FfnFirstReferenceIdeal.main_arg14) = m ((c.tc : Thread Cert.FfnFirstIdeal.nD Cert.FfnFirstIdeal.τ).loc Cert.FfnFirstIdeal.main_arg14)) →
    ∃ (v0 : (c : Dev Cert.FfnFirstIdeal.nD) → Buf (Elt Ideal) ((c.tc : Thread Cert.FfnFirstIdeal.nD Cert.FfnFirstIdeal.τ).loc Cert.FfnFirstIdeal.main_v12_0)) (v1 : (c : Dev Cert.FfnFirstIdeal.nD) → Buf (Elt Ideal) ((c.tc : Thread Cert.FfnFirstIdeal.nD Cert.FfnFirstIdeal.τ).loc Cert.FfnFirstIdeal.main_v12_1)) (v2 : (c : Dev Cert.FfnFirstIdeal.nD) → Buf (Elt Ideal) ((c.tc : Thread Cert.FfnFirstIdeal.nD Cert.FfnFirstIdeal.τ).loc Cert.FfnFirstIdeal.main_v12_2)) (v3 : (c : Dev Cert.FfnFirstIdeal.nD) → Buf (Elt Ideal) ((c.tc : Thread Cert.FfnFirstIdeal.nD Cert.FfnFirstIdeal.τ).loc Cert.FfnFirstIdeal.main_v12_3)) (v4 : (c : Dev Cert.FfnFirstIdeal.nD) → Buf (Elt Ideal) ((c.tc : Thread Cert.FfnFirstIdeal.nD Cert.FfnFirstIdeal.τ).loc Cert.FfnFirstIdeal.main_v12_4)) (v5 : (c : Dev Cert.FfnFirstIdeal.nD) → Buf (Elt Ideal) ((c.tc : Thread Cert.FfnFirstIdeal.nD Cert.FfnFirstIdeal.τ).loc Cert.FfnFirstIdeal.main_v12_5)) (v6 : (c : Dev Cert.FfnFirstIdeal.nD) → Buf (Elt Ideal) ((c.tc : Thread Cert.FfnFirstIdeal.nD Cert.FfnFirstIdeal.τ).loc Cert.FfnFirstIdeal.main_v12_6)) (v7 : (c : Dev Cert.FfnFirstIdeal.nD) → Buf (Elt Ideal) ((c.tc : Thread Cert.FfnFirstIdeal.nD Cert.FfnFirstIdeal.τ).loc Cert.FfnFirstIdeal.main_v12_7)) (v8 : (c : Dev Cert.FfnFirstIdeal.nD) → Buf (Elt Ideal) ((c.tc : Thread Cert.FfnFirstIdeal.nD Cert.FfnFirstIdeal.τ).loc Cert.FfnFirstIdeal.main_v12_8)) (v9 : (c : Dev Cert.FfnFirstIdeal.nD) → Buf (Elt Ideal) ((c.tc : Thread Cert.FfnFirstIdeal.nD Cert.FfnFirstIdeal.τ).loc Cert.FfnFirstIdeal.main_v12_9)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v12_0) = v0 c
          ∧ r.2.mem ((c.tc : Thread Cert.FfnFirstIdeal.nD Cert.FfnFirstIdeal.τ).loc Cert.FfnFirstIdeal.main_v12_1) = v1 c
          ∧ r.2.mem ((c.tc : Thread Cert.FfnFirstIdeal.nD Cert.FfnFirstIdeal.τ).loc Cert.FfnFirstIdeal.main_v12_2) = v2 c
          ∧ r.2.mem ((c.tc : Thread Cert.FfnFirstIdeal.nD Cert.FfnFirstIdeal.τ).loc Cert.FfnFirstIdeal.main_v12_3) = v3 c
          ∧ r.2.mem ((c.tc : Thread Cert.FfnFirstIdeal.nD Cert.FfnFirstIdeal.τ).loc Cert.FfnFirstIdeal.main_v12_4) = v4 c
          ∧ r.2.mem ((c.tc : Thread Cert.FfnFirstIdeal.nD Cert.FfnFirstIdeal.τ).loc Cert.FfnFirstIdeal.main_v12_5) = v5 c
          ∧ r.2.mem ((c.tc : Thread Cert.FfnFirstIdeal.nD Cert.FfnFirstIdeal.τ).loc Cert.FfnFirstIdeal.main_v12_6) = v6 c
          ∧ r.2.mem ((c.tc : Thread Cert.FfnFirstIdeal.nD Cert.FfnFirstIdeal.τ).loc Cert.FfnFirstIdeal.main_v12_7) = v7 c
          ∧ r.2.mem ((c.tc : Thread Cert.FfnFirstIdeal.nD Cert.FfnFirstIdeal.τ).loc Cert.FfnFirstIdeal.main_v12_8) = v8 c
          ∧ r.2.mem ((c.tc : Thread Cert.FfnFirstIdeal.nD Cert.FfnFirstIdeal.τ).loc Cert.FfnFirstIdeal.main_v12_9) = v9 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
          ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7)
          ∧ r.2.mem ((c.tc : Thread Cert.FfnFirstIdeal.nD Cert.FfnFirstIdeal.τ).loc Cert.FfnFirstIdeal.main_arg8) = m ((c.tc : Thread Cert.FfnFirstIdeal.nD Cert.FfnFirstIdeal.τ).loc Cert.FfnFirstIdeal.main_arg8)
          ∧ r.2.mem ((c.tc : Thread Cert.FfnFirstIdeal.nD Cert.FfnFirstIdeal.τ).loc Cert.FfnFirstIdeal.main_arg9) = m ((c.tc : Thread Cert.FfnFirstIdeal.nD Cert.FfnFirstIdeal.τ).loc Cert.FfnFirstIdeal.main_arg9)
          ∧ r.2.mem ((c.tc : Thread Cert.FfnFirstIdeal.nD Cert.FfnFirstIdeal.τ).loc Cert.FfnFirstIdeal.main_arg10) = m ((c.tc : Thread Cert.FfnFirstIdeal.nD Cert.FfnFirstIdeal.τ).loc Cert.FfnFirstIdeal.main_arg10)
          ∧ r.2.mem ((c.tc : Thread Cert.FfnFirstIdeal.nD Cert.FfnFirstIdeal.τ).loc Cert.FfnFirstIdeal.main_arg11) = m ((c.tc : Thread Cert.FfnFirstIdeal.nD Cert.FfnFirstIdeal.τ).loc Cert.FfnFirstIdeal.main_arg11)
          ∧ r.2.mem ((c.tc : Thread Cert.FfnFirstIdeal.nD Cert.FfnFirstIdeal.τ).loc Cert.FfnFirstIdeal.main_arg12) = m ((c.tc : Thread Cert.FfnFirstIdeal.nD Cert.FfnFirstIdeal.τ).loc Cert.FfnFirstIdeal.main_arg12)
          ∧ r.2.mem ((c.tc : Thread Cert.FfnFirstIdeal.nD Cert.FfnFirstIdeal.τ).loc Cert.FfnFirstIdeal.main_arg13) = m ((c.tc : Thread Cert.FfnFirstIdeal.nD Cert.FfnFirstIdeal.τ).loc Cert.FfnFirstIdeal.main_arg13)
          ∧ r.2.mem ((c.tc : Thread Cert.FfnFirstIdeal.nD Cert.FfnFirstIdeal.τ).loc Cert.FfnFirstIdeal.main_arg14) = m ((c.tc : Thread Cert.FfnFirstIdeal.nD Cert.FfnFirstIdeal.τ).loc Cert.FfnFirstIdeal.main_arg14))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v48) = v0 c
          ∧ r.2.mem ((c.tc : Thread Cert.FfnFirstReferenceIdeal.nD Cert.FfnFirstReferenceIdeal.τ).loc Cert.FfnFirstReferenceIdeal.main_v49) = v1 c
          ∧ r.2.mem ((c.tc : Thread Cert.FfnFirstReferenceIdeal.nD Cert.FfnFirstReferenceIdeal.τ).loc Cert.FfnFirstReferenceIdeal.main_v50) = v2 c
          ∧ r.2.mem ((c.tc : Thread Cert.FfnFirstReferenceIdeal.nD Cert.FfnFirstReferenceIdeal.τ).loc Cert.FfnFirstReferenceIdeal.main_v51) = v3 c
          ∧ r.2.mem ((c.tc : Thread Cert.FfnFirstReferenceIdeal.nD Cert.FfnFirstReferenceIdeal.τ).loc Cert.FfnFirstReferenceIdeal.main_v52) = v4 c
          ∧ r.2.mem ((c.tc : Thread Cert.FfnFirstReferenceIdeal.nD Cert.FfnFirstReferenceIdeal.τ).loc Cert.FfnFirstReferenceIdeal.main_v53) = v5 c
          ∧ r.2.mem ((c.tc : Thread Cert.FfnFirstReferenceIdeal.nD Cert.FfnFirstReferenceIdeal.τ).loc Cert.FfnFirstReferenceIdeal.main_v54) = v6 c
          ∧ r.2.mem ((c.tc : Thread Cert.FfnFirstReferenceIdeal.nD Cert.FfnFirstReferenceIdeal.τ).loc Cert.FfnFirstReferenceIdeal.main_v55) = v7 c
          ∧ r.2.mem ((c.tc : Thread Cert.FfnFirstReferenceIdeal.nD Cert.FfnFirstReferenceIdeal.τ).loc Cert.FfnFirstReferenceIdeal.main_v56) = v8 c
          ∧ r.2.mem ((c.tc : Thread Cert.FfnFirstReferenceIdeal.nD Cert.FfnFirstReferenceIdeal.τ).loc Cert.FfnFirstReferenceIdeal.main_v57) = v9 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3)
          ∧ r.2.mem ((c.tc : Thread Cert.FfnFirstReferenceIdeal.nD Cert.FfnFirstReferenceIdeal.τ).loc Cert.FfnFirstReferenceIdeal.main_arg4) = m' ((c.tc : Thread Cert.FfnFirstReferenceIdeal.nD Cert.FfnFirstReferenceIdeal.τ).loc Cert.FfnFirstReferenceIdeal.main_arg4)
          ∧ r.2.mem ((c.tc : Thread Cert.FfnFirstReferenceIdeal.nD Cert.FfnFirstReferenceIdeal.τ).loc Cert.FfnFirstReferenceIdeal.main_arg5) = m' ((c.tc : Thread Cert.FfnFirstReferenceIdeal.nD Cert.FfnFirstReferenceIdeal.τ).loc Cert.FfnFirstReferenceIdeal.main_arg5)
          ∧ r.2.mem ((c.tc : Thread Cert.FfnFirstReferenceIdeal.nD Cert.FfnFirstReferenceIdeal.τ).loc Cert.FfnFirstReferenceIdeal.main_arg6) = m' ((c.tc : Thread Cert.FfnFirstReferenceIdeal.nD Cert.FfnFirstReferenceIdeal.τ).loc Cert.FfnFirstReferenceIdeal.main_arg6)
          ∧ r.2.mem ((c.tc : Thread Cert.FfnFirstReferenceIdeal.nD Cert.FfnFirstReferenceIdeal.τ).loc Cert.FfnFirstReferenceIdeal.main_arg7) = m' ((c.tc : Thread Cert.FfnFirstReferenceIdeal.nD Cert.FfnFirstReferenceIdeal.τ).loc Cert.FfnFirstReferenceIdeal.main_arg7)
          ∧ r.2.mem ((c.tc : Thread Cert.FfnFirstReferenceIdeal.nD Cert.FfnFirstReferenceIdeal.τ).loc Cert.FfnFirstReferenceIdeal.main_arg8) = m' ((c.tc : Thread Cert.FfnFirstReferenceIdeal.nD Cert.FfnFirstReferenceIdeal.τ).loc Cert.FfnFirstReferenceIdeal.main_arg8)
          ∧ r.2.mem ((c.tc : Thread Cert.FfnFirstReferenceIdeal.nD Cert.FfnFirstReferenceIdeal.τ).loc Cert.FfnFirstReferenceIdeal.main_arg9) = m' ((c.tc : Thread Cert.FfnFirstReferenceIdeal.nD Cert.FfnFirstReferenceIdeal.τ).loc Cert.FfnFirstReferenceIdeal.main_arg9)
          ∧ r.2.mem ((c.tc : Thread Cert.FfnFirstReferenceIdeal.nD Cert.FfnFirstReferenceIdeal.τ).loc Cert.FfnFirstReferenceIdeal.main_arg10) = m' ((c.tc : Thread Cert.FfnFirstReferenceIdeal.nD Cert.FfnFirstReferenceIdeal.τ).loc Cert.FfnFirstReferenceIdeal.main_arg10)
          ∧ r.2.mem ((c.tc : Thread Cert.FfnFirstReferenceIdeal.nD Cert.FfnFirstReferenceIdeal.τ).loc Cert.FfnFirstReferenceIdeal.main_arg11) = m' ((c.tc : Thread Cert.FfnFirstReferenceIdeal.nD Cert.FfnFirstReferenceIdeal.τ).loc Cert.FfnFirstReferenceIdeal.main_arg11)
          ∧ r.2.mem ((c.tc : Thread Cert.FfnFirstReferenceIdeal.nD Cert.FfnFirstReferenceIdeal.τ).loc Cert.FfnFirstReferenceIdeal.main_arg12) = m' ((c.tc : Thread Cert.FfnFirstReferenceIdeal.nD Cert.FfnFirstReferenceIdeal.τ).loc Cert.FfnFirstReferenceIdeal.main_arg12)
          ∧ r.2.mem ((c.tc : Thread Cert.FfnFirstReferenceIdeal.nD Cert.FfnFirstReferenceIdeal.τ).loc Cert.FfnFirstReferenceIdeal.main_arg13) = m' ((c.tc : Thread Cert.FfnFirstReferenceIdeal.nD Cert.FfnFirstReferenceIdeal.τ).loc Cert.FfnFirstReferenceIdeal.main_arg13)
          ∧ r.2.mem ((c.tc : Thread Cert.FfnFirstReferenceIdeal.nD Cert.FfnFirstReferenceIdeal.τ).loc Cert.FfnFirstReferenceIdeal.main_arg14) = m' ((c.tc : Thread Cert.FfnFirstReferenceIdeal.nD Cert.FfnFirstReferenceIdeal.τ).loc Cert.FfnFirstReferenceIdeal.main_arg14))

def preserves_FfnSecond_FfnSecondIdeal : Prop :=
  True

def algebraic_FfnSecondIdeal_FfnSecondReferenceIdeal [hFfnSecondIdeal : Cert.FfnSecondIdeal.Facts] [hFfnSecondReferenceIdeal : Cert.FfnSecondReferenceIdeal.Facts] : Prop :=
  ∀ (m : (ℓ : Loc Cert.FfnSecondIdeal.nD Cert.FfnSecondIdeal.τ Cert.FfnSecondIdeal.sig) → Buf (Elt Ideal) ℓ) (g : Dev Cert.FfnSecondIdeal.nD → PrngReg)
    (m' : (ℓ : Loc Cert.FfnSecondReferenceIdeal.nD Cert.FfnSecondReferenceIdeal.τ Cert.FfnSecondReferenceIdeal.sig) → Buf (Elt Ideal) ℓ) (g' : Dev Cert.FfnSecondReferenceIdeal.nD → PrngReg), Pre_FfnSecondIdeal m →
    (∀ c : Dev Cert.FfnSecondIdeal.nD,
      m' ((c.tc : Thread Cert.FfnSecondReferenceIdeal.nD Cert.FfnSecondReferenceIdeal.τ).loc Cert.FfnSecondReferenceIdeal.main_arg0) = m ((c.tc : Thread Cert.FfnSecondIdeal.nD Cert.FfnSecondIdeal.τ).loc Cert.FfnSecondIdeal.main_arg0)
      ∧ m' ((c.tc : Thread Cert.FfnSecondReferenceIdeal.nD Cert.FfnSecondReferenceIdeal.τ).loc Cert.FfnSecondReferenceIdeal.main_arg1) = m ((c.tc : Thread Cert.FfnSecondIdeal.nD Cert.FfnSecondIdeal.τ).loc Cert.FfnSecondIdeal.main_arg1)
      ∧ m' ((c.tc : Thread Cert.FfnSecondReferenceIdeal.nD Cert.FfnSecondReferenceIdeal.τ).loc Cert.FfnSecondReferenceIdeal.main_arg2) = m ((c.tc : Thread Cert.FfnSecondIdeal.nD Cert.FfnSecondIdeal.τ).loc Cert.FfnSecondIdeal.main_arg2)
      ∧ m' ((c.tc : Thread Cert.FfnSecondReferenceIdeal.nD Cert.FfnSecondReferenceIdeal.τ).loc Cert.FfnSecondReferenceIdeal.main_arg3) = m ((c.tc : Thread Cert.FfnSecondIdeal.nD Cert.FfnSecondIdeal.τ).loc Cert.FfnSecondIdeal.main_arg3)
      ∧ m' ((c.tc : Thread Cert.FfnSecondReferenceIdeal.nD Cert.FfnSecondReferenceIdeal.τ).loc Cert.FfnSecondReferenceIdeal.main_arg4) = m ((c.tc : Thread Cert.FfnSecondIdeal.nD Cert.FfnSecondIdeal.τ).loc Cert.FfnSecondIdeal.main_arg4)
      ∧ m' ((c.tc : Thread Cert.FfnSecondReferenceIdeal.nD Cert.FfnSecondReferenceIdeal.τ).loc Cert.FfnSecondReferenceIdeal.main_arg5) = m ((c.tc : Thread Cert.FfnSecondIdeal.nD Cert.FfnSecondIdeal.τ).loc Cert.FfnSecondIdeal.main_arg5)
      ∧ m' ((c.tc : Thread Cert.FfnSecondReferenceIdeal.nD Cert.FfnSecondReferenceIdeal.τ).loc Cert.FfnSecondReferenceIdeal.main_arg6) = m ((c.tc : Thread Cert.FfnSecondIdeal.nD Cert.FfnSecondIdeal.τ).loc Cert.FfnSecondIdeal.main_arg6)
      ∧ m' ((c.tc : Thread Cert.FfnSecondReferenceIdeal.nD Cert.FfnSecondReferenceIdeal.τ).loc Cert.FfnSecondReferenceIdeal.main_arg7) = m ((c.tc : Thread Cert.FfnSecondIdeal.nD Cert.FfnSecondIdeal.τ).loc Cert.FfnSecondIdeal.main_arg7)
      ∧ m' ((c.tc : Thread Cert.FfnSecondReferenceIdeal.nD Cert.FfnSecondReferenceIdeal.τ).loc Cert.FfnSecondReferenceIdeal.main_arg8) = m ((c.tc : Thread Cert.FfnSecondIdeal.nD Cert.FfnSecondIdeal.τ).loc Cert.FfnSecondIdeal.main_arg8)) →
    ∃ (v0 : (c : Dev Cert.FfnSecondIdeal.nD) → Buf (Elt Ideal) ((c.tc : Thread Cert.FfnSecondIdeal.nD Cert.FfnSecondIdeal.τ).loc Cert.FfnSecondIdeal.main_v11_0)) (v1 : (c : Dev Cert.FfnSecondIdeal.nD) → Buf (Elt Ideal) ((c.tc : Thread Cert.FfnSecondIdeal.nD Cert.FfnSecondIdeal.τ).loc Cert.FfnSecondIdeal.main_v11_1)) (v2 : (c : Dev Cert.FfnSecondIdeal.nD) → Buf (Elt Ideal) ((c.tc : Thread Cert.FfnSecondIdeal.nD Cert.FfnSecondIdeal.τ).loc Cert.FfnSecondIdeal.main_v11_2)) (v3 : (c : Dev Cert.FfnSecondIdeal.nD) → Buf (Elt Ideal) ((c.tc : Thread Cert.FfnSecondIdeal.nD Cert.FfnSecondIdeal.τ).loc Cert.FfnSecondIdeal.main_v11_3)),
      θ_run (Cert.FfnSecondIdeal.defs (F := Ideal)) (onTc (τ := Cert.FfnSecondIdeal.τ) (Cert.FfnSecondIdeal.main (F := Ideal))) ⟨m, fun _ => 0, g⟩ (fun r => ∀ c : Dev Cert.FfnSecondIdeal.nD,
          r.2.mem ((c.tc : Thread Cert.FfnSecondIdeal.nD Cert.FfnSecondIdeal.τ).loc Cert.FfnSecondIdeal.main_v11_0) = v0 c
          ∧ r.2.mem ((c.tc : Thread Cert.FfnSecondIdeal.nD Cert.FfnSecondIdeal.τ).loc Cert.FfnSecondIdeal.main_v11_1) = v1 c
          ∧ r.2.mem ((c.tc : Thread Cert.FfnSecondIdeal.nD Cert.FfnSecondIdeal.τ).loc Cert.FfnSecondIdeal.main_v11_2) = v2 c
          ∧ r.2.mem ((c.tc : Thread Cert.FfnSecondIdeal.nD Cert.FfnSecondIdeal.τ).loc Cert.FfnSecondIdeal.main_v11_3) = v3 c
          ∧ r.2.mem ((c.tc : Thread Cert.FfnSecondIdeal.nD Cert.FfnSecondIdeal.τ).loc Cert.FfnSecondIdeal.main_arg0) = m ((c.tc : Thread Cert.FfnSecondIdeal.nD Cert.FfnSecondIdeal.τ).loc Cert.FfnSecondIdeal.main_arg0)
          ∧ r.2.mem ((c.tc : Thread Cert.FfnSecondIdeal.nD Cert.FfnSecondIdeal.τ).loc Cert.FfnSecondIdeal.main_arg1) = m ((c.tc : Thread Cert.FfnSecondIdeal.nD Cert.FfnSecondIdeal.τ).loc Cert.FfnSecondIdeal.main_arg1)
          ∧ r.2.mem ((c.tc : Thread Cert.FfnSecondIdeal.nD Cert.FfnSecondIdeal.τ).loc Cert.FfnSecondIdeal.main_arg2) = m ((c.tc : Thread Cert.FfnSecondIdeal.nD Cert.FfnSecondIdeal.τ).loc Cert.FfnSecondIdeal.main_arg2)
          ∧ r.2.mem ((c.tc : Thread Cert.FfnSecondIdeal.nD Cert.FfnSecondIdeal.τ).loc Cert.FfnSecondIdeal.main_arg3) = m ((c.tc : Thread Cert.FfnSecondIdeal.nD Cert.FfnSecondIdeal.τ).loc Cert.FfnSecondIdeal.main_arg3)
          ∧ r.2.mem ((c.tc : Thread Cert.FfnSecondIdeal.nD Cert.FfnSecondIdeal.τ).loc Cert.FfnSecondIdeal.main_arg4) = m ((c.tc : Thread Cert.FfnSecondIdeal.nD Cert.FfnSecondIdeal.τ).loc Cert.FfnSecondIdeal.main_arg4)
          ∧ r.2.mem ((c.tc : Thread Cert.FfnSecondIdeal.nD Cert.FfnSecondIdeal.τ).loc Cert.FfnSecondIdeal.main_arg5) = m ((c.tc : Thread Cert.FfnSecondIdeal.nD Cert.FfnSecondIdeal.τ).loc Cert.FfnSecondIdeal.main_arg5)
          ∧ r.2.mem ((c.tc : Thread Cert.FfnSecondIdeal.nD Cert.FfnSecondIdeal.τ).loc Cert.FfnSecondIdeal.main_arg6) = m ((c.tc : Thread Cert.FfnSecondIdeal.nD Cert.FfnSecondIdeal.τ).loc Cert.FfnSecondIdeal.main_arg6)
          ∧ r.2.mem ((c.tc : Thread Cert.FfnSecondIdeal.nD Cert.FfnSecondIdeal.τ).loc Cert.FfnSecondIdeal.main_arg7) = m ((c.tc : Thread Cert.FfnSecondIdeal.nD Cert.FfnSecondIdeal.τ).loc Cert.FfnSecondIdeal.main_arg7)
          ∧ r.2.mem ((c.tc : Thread Cert.FfnSecondIdeal.nD Cert.FfnSecondIdeal.τ).loc Cert.FfnSecondIdeal.main_arg8) = m ((c.tc : Thread Cert.FfnSecondIdeal.nD Cert.FfnSecondIdeal.τ).loc Cert.FfnSecondIdeal.main_arg8))
      ∧ θ_run (Cert.FfnSecondReferenceIdeal.defs (F := Ideal)) (onTc (τ := Cert.FfnSecondReferenceIdeal.τ) (Cert.FfnSecondReferenceIdeal.main (F := Ideal))) ⟨m', fun _ => 0, g'⟩ (fun r => ∀ c : Dev Cert.FfnSecondReferenceIdeal.nD,
          r.2.mem ((c.tc : Thread Cert.FfnSecondReferenceIdeal.nD Cert.FfnSecondReferenceIdeal.τ).loc Cert.FfnSecondReferenceIdeal.main_v29) = v0 c
          ∧ r.2.mem ((c.tc : Thread Cert.FfnSecondReferenceIdeal.nD Cert.FfnSecondReferenceIdeal.τ).loc Cert.FfnSecondReferenceIdeal.main_v32) = v1 c
          ∧ r.2.mem ((c.tc : Thread Cert.FfnSecondReferenceIdeal.nD Cert.FfnSecondReferenceIdeal.τ).loc Cert.FfnSecondReferenceIdeal.main_v35) = v2 c
          ∧ r.2.mem ((c.tc : Thread Cert.FfnSecondReferenceIdeal.nD Cert.FfnSecondReferenceIdeal.τ).loc Cert.FfnSecondReferenceIdeal.main_v38) = v3 c
          ∧ r.2.mem ((c.tc : Thread Cert.FfnSecondReferenceIdeal.nD Cert.FfnSecondReferenceIdeal.τ).loc Cert.FfnSecondReferenceIdeal.main_arg0) = m' ((c.tc : Thread Cert.FfnSecondReferenceIdeal.nD Cert.FfnSecondReferenceIdeal.τ).loc Cert.FfnSecondReferenceIdeal.main_arg0)
          ∧ r.2.mem ((c.tc : Thread Cert.FfnSecondReferenceIdeal.nD Cert.FfnSecondReferenceIdeal.τ).loc Cert.FfnSecondReferenceIdeal.main_arg1) = m' ((c.tc : Thread Cert.FfnSecondReferenceIdeal.nD Cert.FfnSecondReferenceIdeal.τ).loc Cert.FfnSecondReferenceIdeal.main_arg1)
          ∧ r.2.mem ((c.tc : Thread Cert.FfnSecondReferenceIdeal.nD Cert.FfnSecondReferenceIdeal.τ).loc Cert.FfnSecondReferenceIdeal.main_arg2) = m' ((c.tc : Thread Cert.FfnSecondReferenceIdeal.nD Cert.FfnSecondReferenceIdeal.τ).loc Cert.FfnSecondReferenceIdeal.main_arg2)
          ∧ r.2.mem ((c.tc : Thread Cert.FfnSecondReferenceIdeal.nD Cert.FfnSecondReferenceIdeal.τ).loc Cert.FfnSecondReferenceIdeal.main_arg3) = m' ((c.tc : Thread Cert.FfnSecondReferenceIdeal.nD Cert.FfnSecondReferenceIdeal.τ).loc Cert.FfnSecondReferenceIdeal.main_arg3)
          ∧ r.2.mem ((c.tc : Thread Cert.FfnSecondReferenceIdeal.nD Cert.FfnSecondReferenceIdeal.τ).loc Cert.FfnSecondReferenceIdeal.main_arg4) = m' ((c.tc : Thread Cert.FfnSecondReferenceIdeal.nD Cert.FfnSecondReferenceIdeal.τ).loc Cert.FfnSecondReferenceIdeal.main_arg4)
          ∧ r.2.mem ((c.tc : Thread Cert.FfnSecondReferenceIdeal.nD Cert.FfnSecondReferenceIdeal.τ).loc Cert.FfnSecondReferenceIdeal.main_arg5) = m' ((c.tc : Thread Cert.FfnSecondReferenceIdeal.nD Cert.FfnSecondReferenceIdeal.τ).loc Cert.FfnSecondReferenceIdeal.main_arg5)
          ∧ r.2.mem ((c.tc : Thread Cert.FfnSecondReferenceIdeal.nD Cert.FfnSecondReferenceIdeal.τ).loc Cert.FfnSecondReferenceIdeal.main_arg6) = m' ((c.tc : Thread Cert.FfnSecondReferenceIdeal.nD Cert.FfnSecondReferenceIdeal.τ).loc Cert.FfnSecondReferenceIdeal.main_arg6)
          ∧ r.2.mem ((c.tc : Thread Cert.FfnSecondReferenceIdeal.nD Cert.FfnSecondReferenceIdeal.τ).loc Cert.FfnSecondReferenceIdeal.main_arg7) = m' ((c.tc : Thread Cert.FfnSecondReferenceIdeal.nD Cert.FfnSecondReferenceIdeal.τ).loc Cert.FfnSecondReferenceIdeal.main_arg7)
          ∧ r.2.mem ((c.tc : Thread Cert.FfnSecondReferenceIdeal.nD Cert.FfnSecondReferenceIdeal.τ).loc Cert.FfnSecondReferenceIdeal.main_arg8) = m' ((c.tc : Thread Cert.FfnSecondReferenceIdeal.nD Cert.FfnSecondReferenceIdeal.τ).loc Cert.FfnSecondReferenceIdeal.main_arg8))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v18) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def preserves_Rotary_RotaryIdeal : Prop :=
  True

def algebraic_RotaryIdeal_RotaryReferenceIdeal [hRotaryIdeal : Cert.RotaryIdeal.Facts] [hRotaryReferenceIdeal : Cert.RotaryReferenceIdeal.Facts] : Prop :=
  ∀ (m : (ℓ : Loc Cert.RotaryIdeal.nD Cert.RotaryIdeal.τ Cert.RotaryIdeal.sig) → Buf (Elt Ideal) ℓ) (g : Dev Cert.RotaryIdeal.nD → PrngReg)
    (m' : (ℓ : Loc Cert.RotaryReferenceIdeal.nD Cert.RotaryReferenceIdeal.τ Cert.RotaryReferenceIdeal.sig) → Buf (Elt Ideal) ℓ) (g' : Dev Cert.RotaryReferenceIdeal.nD → PrngReg), Pre_RotaryIdeal m →
    (∀ c : Dev Cert.RotaryIdeal.nD,
      m' ((c.tc : Thread Cert.RotaryReferenceIdeal.nD Cert.RotaryReferenceIdeal.τ).loc Cert.RotaryReferenceIdeal.main_arg0) = m ((c.tc : Thread Cert.RotaryIdeal.nD Cert.RotaryIdeal.τ).loc Cert.RotaryIdeal.main_arg0)
      ∧ m' ((c.tc : Thread Cert.RotaryReferenceIdeal.nD Cert.RotaryReferenceIdeal.τ).loc Cert.RotaryReferenceIdeal.main_arg1) = m ((c.tc : Thread Cert.RotaryIdeal.nD Cert.RotaryIdeal.τ).loc Cert.RotaryIdeal.main_arg1)
      ∧ m' ((c.tc : Thread Cert.RotaryReferenceIdeal.nD Cert.RotaryReferenceIdeal.τ).loc Cert.RotaryReferenceIdeal.main_arg2) = m ((c.tc : Thread Cert.RotaryIdeal.nD Cert.RotaryIdeal.τ).loc Cert.RotaryIdeal.main_arg2)
      ∧ m' ((c.tc : Thread Cert.RotaryReferenceIdeal.nD Cert.RotaryReferenceIdeal.τ).loc Cert.RotaryReferenceIdeal.main_arg3) = m ((c.tc : Thread Cert.RotaryIdeal.nD Cert.RotaryIdeal.τ).loc Cert.RotaryIdeal.main_arg3)) →
    ∃ (v0 : (c : Dev Cert.RotaryIdeal.nD) → Buf (Elt Ideal) ((c.tc : Thread Cert.RotaryIdeal.nD Cert.RotaryIdeal.τ).loc Cert.RotaryIdeal.main_v15_0)) (v1 : (c : Dev Cert.RotaryIdeal.nD) → Buf (Elt Ideal) ((c.tc : Thread Cert.RotaryIdeal.nD Cert.RotaryIdeal.τ).loc Cert.RotaryIdeal.main_v15_1)) (v2 : (c : Dev Cert.RotaryIdeal.nD) → Buf (Elt Ideal) ((c.tc : Thread Cert.RotaryIdeal.nD Cert.RotaryIdeal.τ).loc Cert.RotaryIdeal.main_v15_2)) (v3 : (c : Dev Cert.RotaryIdeal.nD) → Buf (Elt Ideal) ((c.tc : Thread Cert.RotaryIdeal.nD Cert.RotaryIdeal.τ).loc Cert.RotaryIdeal.main_v15_3)) (v4 : (c : Dev Cert.RotaryIdeal.nD) → Buf (Elt Ideal) ((c.tc : Thread Cert.RotaryIdeal.nD Cert.RotaryIdeal.τ).loc Cert.RotaryIdeal.main_v15_4)),
      θ_run (Cert.RotaryIdeal.defs (F := Ideal)) (onTc (τ := Cert.RotaryIdeal.τ) (Cert.RotaryIdeal.main (F := Ideal))) ⟨m, fun _ => 0, g⟩ (fun r => ∀ c : Dev Cert.RotaryIdeal.nD,
          r.2.mem ((c.tc : Thread Cert.RotaryIdeal.nD Cert.RotaryIdeal.τ).loc Cert.RotaryIdeal.main_v15_0) = v0 c
          ∧ r.2.mem ((c.tc : Thread Cert.RotaryIdeal.nD Cert.RotaryIdeal.τ).loc Cert.RotaryIdeal.main_v15_1) = v1 c
          ∧ r.2.mem ((c.tc : Thread Cert.RotaryIdeal.nD Cert.RotaryIdeal.τ).loc Cert.RotaryIdeal.main_v15_2) = v2 c
          ∧ r.2.mem ((c.tc : Thread Cert.RotaryIdeal.nD Cert.RotaryIdeal.τ).loc Cert.RotaryIdeal.main_v15_3) = v3 c
          ∧ r.2.mem ((c.tc : Thread Cert.RotaryIdeal.nD Cert.RotaryIdeal.τ).loc Cert.RotaryIdeal.main_v15_4) = v4 c
          ∧ r.2.mem ((c.tc : Thread Cert.RotaryIdeal.nD Cert.RotaryIdeal.τ).loc Cert.RotaryIdeal.main_arg0) = m ((c.tc : Thread Cert.RotaryIdeal.nD Cert.RotaryIdeal.τ).loc Cert.RotaryIdeal.main_arg0)
          ∧ r.2.mem ((c.tc : Thread Cert.RotaryIdeal.nD Cert.RotaryIdeal.τ).loc Cert.RotaryIdeal.main_arg1) = m ((c.tc : Thread Cert.RotaryIdeal.nD Cert.RotaryIdeal.τ).loc Cert.RotaryIdeal.main_arg1)
          ∧ r.2.mem ((c.tc : Thread Cert.RotaryIdeal.nD Cert.RotaryIdeal.τ).loc Cert.RotaryIdeal.main_arg2) = m ((c.tc : Thread Cert.RotaryIdeal.nD Cert.RotaryIdeal.τ).loc Cert.RotaryIdeal.main_arg2)
          ∧ r.2.mem ((c.tc : Thread Cert.RotaryIdeal.nD Cert.RotaryIdeal.τ).loc Cert.RotaryIdeal.main_arg3) = m ((c.tc : Thread Cert.RotaryIdeal.nD Cert.RotaryIdeal.τ).loc Cert.RotaryIdeal.main_arg3))
      ∧ θ_run (Cert.RotaryReferenceIdeal.defs (F := Ideal)) (onTc (τ := Cert.RotaryReferenceIdeal.τ) (Cert.RotaryReferenceIdeal.main (F := Ideal))) ⟨m', fun _ => 0, g'⟩ (fun r => ∀ c : Dev Cert.RotaryReferenceIdeal.nD,
          r.2.mem ((c.tc : Thread Cert.RotaryReferenceIdeal.nD Cert.RotaryReferenceIdeal.τ).loc Cert.RotaryReferenceIdeal.main_v19) = v0 c
          ∧ r.2.mem ((c.tc : Thread Cert.RotaryReferenceIdeal.nD Cert.RotaryReferenceIdeal.τ).loc Cert.RotaryReferenceIdeal.main_v23) = v1 c
          ∧ r.2.mem ((c.tc : Thread Cert.RotaryReferenceIdeal.nD Cert.RotaryReferenceIdeal.τ).loc Cert.RotaryReferenceIdeal.main_v26) = v2 c
          ∧ r.2.mem ((c.tc : Thread Cert.RotaryReferenceIdeal.nD Cert.RotaryReferenceIdeal.τ).loc Cert.RotaryReferenceIdeal.main_v29) = v3 c
          ∧ r.2.mem ((c.tc : Thread Cert.RotaryReferenceIdeal.nD Cert.RotaryReferenceIdeal.τ).loc Cert.RotaryReferenceIdeal.main_v32) = v4 c
          ∧ r.2.mem ((c.tc : Thread Cert.RotaryReferenceIdeal.nD Cert.RotaryReferenceIdeal.τ).loc Cert.RotaryReferenceIdeal.main_arg0) = m' ((c.tc : Thread Cert.RotaryReferenceIdeal.nD Cert.RotaryReferenceIdeal.τ).loc Cert.RotaryReferenceIdeal.main_arg0)
          ∧ r.2.mem ((c.tc : Thread Cert.RotaryReferenceIdeal.nD Cert.RotaryReferenceIdeal.τ).loc Cert.RotaryReferenceIdeal.main_arg1) = m' ((c.tc : Thread Cert.RotaryReferenceIdeal.nD Cert.RotaryReferenceIdeal.τ).loc Cert.RotaryReferenceIdeal.main_arg1)
          ∧ r.2.mem ((c.tc : Thread Cert.RotaryReferenceIdeal.nD Cert.RotaryReferenceIdeal.τ).loc Cert.RotaryReferenceIdeal.main_arg2) = m' ((c.tc : Thread Cert.RotaryReferenceIdeal.nD Cert.RotaryReferenceIdeal.τ).loc Cert.RotaryReferenceIdeal.main_arg2)
          ∧ r.2.mem ((c.tc : Thread Cert.RotaryReferenceIdeal.nD Cert.RotaryReferenceIdeal.τ).loc Cert.RotaryReferenceIdeal.main_arg3) = m' ((c.tc : Thread Cert.RotaryReferenceIdeal.nD Cert.RotaryReferenceIdeal.τ).loc Cert.RotaryReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnFirst : Cert.FfnFirst.Facts) (hFfnFirstIdeal : Cert.FfnFirstIdeal.Facts) (hFfnFirstReferenceIdeal : Cert.FfnFirstReferenceIdeal.Facts) (hFfnSecond : Cert.FfnSecond.Facts) (hFfnSecondIdeal : Cert.FfnSecondIdeal.Facts) (hFfnSecondReferenceIdeal : Cert.FfnSecondReferenceIdeal.Facts) (hMemory : Cert.Memory.Facts) (hMemoryIdeal : Cert.MemoryIdeal.Facts) (hMemoryReferenceIdeal : Cert.MemoryReferenceIdeal.Facts) (hRotary : Cert.Rotary.Facts) (hRotaryIdeal : Cert.RotaryIdeal.Facts) (hRotaryReferenceIdeal : Cert.RotaryReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnFirst (hFfnFirst := hFfnFirst)
    ∧ quiescent_FfnFirstIdeal (hFfnFirstIdeal := hFfnFirstIdeal)
    ∧ quiescent_FfnFirstReferenceIdeal (hFfnFirstReferenceIdeal := hFfnFirstReferenceIdeal)
    ∧ quiescent_FfnSecond (hFfnSecond := hFfnSecond)
    ∧ quiescent_FfnSecondIdeal (hFfnSecondIdeal := hFfnSecondIdeal)
    ∧ quiescent_FfnSecondReferenceIdeal (hFfnSecondReferenceIdeal := hFfnSecondReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Rotary (hRotary := hRotary)
    ∧ quiescent_RotaryIdeal (hRotaryIdeal := hRotaryIdeal)
    ∧ quiescent_RotaryReferenceIdeal (hRotaryReferenceIdeal := hRotaryReferenceIdeal)
    ∧ preserves_Kernel_KernelIdeal
    ∧ preserves_Ffn_FfnIdeal
    ∧ algebraic_FfnIdeal_FfnReferenceIdeal (hFfnIdeal := hFfnIdeal) (hFfnReferenceIdeal := hFfnReferenceIdeal)
    ∧ preserves_FfnFirst_FfnFirstIdeal
    ∧ algebraic_FfnFirstIdeal_FfnFirstReferenceIdeal (hFfnFirstIdeal := hFfnFirstIdeal) (hFfnFirstReferenceIdeal := hFfnFirstReferenceIdeal)
    ∧ preserves_FfnSecond_FfnSecondIdeal
    ∧ algebraic_FfnSecondIdeal_FfnSecondReferenceIdeal (hFfnSecondIdeal := hFfnSecondIdeal) (hFfnSecondReferenceIdeal := hFfnSecondReferenceIdeal)
    ∧ preserves_Memory_MemoryIdeal
    ∧ algebraic_MemoryIdeal_MemoryReferenceIdeal (hMemoryIdeal := hMemoryIdeal) (hMemoryReferenceIdeal := hMemoryReferenceIdeal)
    ∧ preserves_Rotary_RotaryIdeal
    ∧ algebraic_RotaryIdeal_RotaryReferenceIdeal (hRotaryIdeal := hRotaryIdeal) (hRotaryReferenceIdeal := hRotaryReferenceIdeal)
-- ==== Kernel.lean ====
abbrev S4x8192x1024 : Shape := ⟨3, ![4, 8192, 1024]⟩
abbrev S4x8192x1x32 : Shape := ⟨4, ![4, 8192, 1, 32]⟩
abbrev S2x1024 : Shape := ⟨2, ![2, 1024]⟩
abbrev S2x1024x1280 : Shape := ⟨3, ![2, 1024, 1280]⟩
abbrev S2x8 : Shape := ⟨2, ![2, 8]⟩
abbrev S2x4x128x128 : Shape := ⟨4, ![2, 4, 128, 128]⟩
abbrev S2x512 : Shape := ⟨2, ![2, 512]⟩
abbrev S2x1024x1024 : Shape := ⟨3, ![2, 1024, 1024]⟩
abbrev S4x256x2048 : Shape := ⟨3, ![4, 256, 2048]⟩
abbrev S32768x32 : Shape := ⟨2, ![32768, 32]⟩
abbrev S32768x128 : Shape := ⟨2, ![32768, 128]⟩
abbrev S2x512x128 : Shape := ⟨3, ![2, 512, 128]⟩
abbrev S32768x1024 : Shape := ⟨2, ![32768, 1024]⟩
abbrev S1x1024x1280 : Shape := ⟨3, ![1, 1024, 1280]⟩
abbrev S1024x1280 : Shape := ⟨2, ![1024, 1280]⟩
abbrev S1x512x128 : Shape := ⟨3, ![1, 512, 128]⟩
abbrev S512x128 : Shape := ⟨2, ![512, 128]⟩
abbrev S1x1024x1024 : Shape := ⟨3, ![1, 1024, 1024]⟩
abbrev S1024x1024 : Shape := ⟨2, ![1024, 1024]⟩
abbrev S1024x128 : Shape := ⟨2, ![1024, 128]⟩
abbrev S1x256x1024 : Shape := ⟨3, ![1, 256, 1024]⟩
abbrev S2x1152x128 : Shape := ⟨3, ![2, 1152, 128]⟩
abbrev S1056x512 : Shape := ⟨2, ![1056, 512]⟩
abbrev S1056x384 : Shape := ⟨2, ![1056, 384]⟩
abbrev S1056x256 : Shape := ⟨2, ![1056, 256]⟩
abbrev S1024x512 : Shape := ⟨2, ![1024, 512]⟩
abbrev S2x128x128 : Shape := ⟨3, ![2, 128, 128]⟩
abbrev S32x512 : Shape := ⟨2, ![32, 512]⟩
abbrev S1x1024 : Shape := ⟨2, ![1, 1024]⟩
abbrev S1024 : Shape := ⟨1, ![1024]⟩
abbrev S1024x1 : Shape := ⟨2, ![1024, 1]⟩
abbrev S256x1024 : Shape := ⟨2, ![256, 1024]⟩
abbrev S256x1280 : Shape := ⟨2, ![256, 1280]⟩
abbrev S1x1024x128 : Shape := ⟨3, ![1, 1024, 128]⟩
abbrev S128x128 : Shape := ⟨2, ![128, 128]⟩
abbrev S1x256x128 : Shape := ⟨3, ![1, 256, 128]⟩
abbrev S256x128 : Shape := ⟨2, ![256, 128]⟩
abbrev S256x512 : Shape := ⟨2, ![256, 512]⟩
abbrev S1x1 : Shape := ⟨2, ![1, 1]⟩
abbrev S128 : Shape := ⟨1, ![128]⟩
abbrev S1x128 : Shape := ⟨2, ![1, 128]⟩
abbrev S1048x512 : Shape := ⟨2, ![1048, 512]⟩
abbrev S1040x384 : Shape := ⟨2, ![1040, 384]⟩
abbrev S1032x256 : Shape := ⟨2, ![1032, 256]⟩
abbrev S16x128 : Shape := ⟨2, ![16, 128]⟩
abbrev S1008x128 : Shape := ⟨2, ![1008, 128]⟩
abbrev S128x256 : Shape := ⟨2, ![128, 256]⟩
abbrev S256x256 : Shape := ⟨2, ![256, 256]⟩
abbrev S1024x256 : Shape := ⟨2, ![1024, 256]⟩
abbrev S1x256 : Shape := ⟨2, ![1, 256]⟩
abbrev S16x512 : Shape := ⟨2, ![16, 512]⟩
abbrev S1x512 : Shape := ⟨2, ![1, 512]⟩
abbrev S512x1024 : Shape := ⟨2, ![512, 1024]⟩
abbrev S1x256x256 : Shape := ⟨3, ![1, 256, 256]⟩

abbrev nBuf : Space → Nat
  | .hbm => 40
  | .vmem => 31
  | .smem => 1
  | _ => 0

abbrev bufTy : (tb : Table) → Fin (tcTables nBuf tb) → BufTy
  | .hbm, ⟨0, _⟩ => ⟨S4x8192x1024, .f32⟩
  | .hbm, ⟨1, _⟩ => ⟨S4x8192x1x32, .f32⟩
  | .hbm, ⟨2, _⟩ => ⟨S4x8192x1x32, .f32⟩
  | .hbm, ⟨3, _⟩ => ⟨S2x1024, .f32⟩
  | .hbm, ⟨4, _⟩ => ⟨S2x1024x1280, .f32⟩
  | .hbm, ⟨5, _⟩ => ⟨S2x8, .f32⟩
  | .hbm, ⟨6, _⟩ => ⟨S2x4x128x128, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S2x1024x1024, .f32⟩
  | .hbm, ⟨11, _⟩ => ⟨S2x1024, .f32⟩
  | .hbm, ⟨12, _⟩ => ⟨S2x1024x1024, .f32⟩
  | .hbm, ⟨13, _⟩ => ⟨S4x256x2048, .f32⟩
  | .hbm, ⟨14, _⟩ => ⟨S2x1024x1024, .f32⟩
  | .hbm, ⟨15, _⟩ => ⟨S32768x32, .f32⟩
  | .hbm, ⟨16, _⟩ => ⟨S32768x32, .f32⟩
  | .hbm, ⟨17, _⟩ => ⟨S32768x128, .f32⟩
  | .hbm, ⟨18, _⟩ => ⟨S32768x32, .f32⟩
  | .hbm, ⟨19, _⟩ => ⟨S32768x32, .f32⟩
  | .hbm, ⟨20, _⟩ => ⟨S32768x128, .f32⟩
  | .hbm, ⟨21, _⟩ => ⟨S2x512x128, .f32⟩
  | .hbm, ⟨22, _⟩ => ⟨S32768x1024, .f32⟩
  | .hbm, ⟨23, _⟩ => ⟨S1x1024x1280, .f32⟩
  | .hbm, ⟨24, _⟩ => ⟨S1024x1280, .f32⟩
  | .hbm, ⟨25, _⟩ => ⟨S1024x1280, .bf16⟩
  | .hbm, ⟨26, _⟩ => ⟨S1x512x128, .f32⟩
  | .hbm, ⟨27, _⟩ => ⟨S512x128, .f32⟩
  | .hbm, ⟨28, _⟩ => ⟨S512x128, .bf16⟩
  | .hbm, ⟨29, _⟩ => ⟨S1x1024x1024, .f32⟩
  | .hbm, ⟨30, _⟩ => ⟨S1024x1024, .f32⟩
  | .hbm, ⟨31, _⟩ => ⟨S1024x1024, .bf16⟩
  | .hbm, ⟨32, _⟩ => ⟨S1x1024x1024, .f32⟩
  | .hbm, ⟨33, _⟩ => ⟨S1024x1024, .f32⟩
  | .hbm, ⟨34, _⟩ => ⟨S1024x1024, .bf16⟩
  | .hbm, ⟨35, _⟩ => ⟨S4x256x2048, .bf16⟩
  | .hbm, ⟨36, _⟩ => ⟨S1x1024x1024, .f32⟩
  | .hbm, ⟨37, _⟩ => ⟨S1024x1024, .f32⟩
  | .hbm, ⟨38, _⟩ => ⟨S1024x1024, .bf16⟩
  | .hbm, ⟨39, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S2x1024, .f32⟩
  | .local _ .vmem, ⟨7, _⟩ => ⟨S1024x1280, .bf16⟩
  | .local _ .vmem, ⟨8, _⟩ => ⟨S512x128, .bf16⟩
  | .local _ .vmem, ⟨9, _⟩ => ⟨S2x512, .f32⟩
  | .local _ .vmem, ⟨10, _⟩ => ⟨S2x512, .f32⟩
  | .local _ .vmem, ⟨11, _⟩ => ⟨S2x512, .f32⟩
  | .local _ .vmem, ⟨12, _⟩ => ⟨S1024x1024, .bf16⟩
  | .local _ .vmem, ⟨13, _⟩ => ⟨S2x1024, .f32⟩
  | .local _ .vmem, ⟨14, _⟩ => ⟨S1024x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S2x1152x128, .bf16⟩
  | .local _ .vmem, ⟨23, _⟩ => ⟨S2x1152x128, .bf16⟩
  | .local _ .vmem, ⟨24, _⟩ => ⟨S1056x512, .f32⟩
  | .local _ .vmem, ⟨25, _⟩ => ⟨S1056x512, .f32⟩
  | .local _ .vmem, ⟨26, _⟩ => ⟨S1056x384, .f32⟩
  | .local _ .vmem, ⟨27, _⟩ => ⟨S1056x256, .f32⟩
  | .local _ .vmem, ⟨28, _⟩ => ⟨S1024x512, .f32⟩
  | .local _ .vmem, ⟨29, _⟩ => ⟨S1024x512, .f32⟩
  | .local _ .vmem, ⟨30, _⟩ => ⟨S1024x1024, .bf16⟩
  | .local _ .smem, ⟨0, _⟩ => ⟨S2x8, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | "xscale" => some (((1 / 16) * (Real.log 2)⁻¹ : ℝ) : EReal)
  | _ => none
-- ==== ReferenceIdeal.lean ====
abbrev S4x8192x1024 : Shape := ⟨3, ![4, 8192, 1024]⟩
abbrev S4x8192x1x32 : Shape := ⟨4, ![4, 8192, 1, 32]⟩
abbrev S2x1024 : Shape := ⟨2, ![2, 1024]⟩
abbrev S2x1024x1280 : Shape := ⟨3, ![2, 1024, 1280]⟩
abbrev S2x8 : Shape := ⟨2, ![2, 8]⟩
abbrev S2x4x128x128 : Shape := ⟨4, ![2, 4, 128, 128]⟩
abbrev S2x512 : Shape := ⟨2, ![2, 512]⟩
abbrev S2x1024x1024 : Shape := ⟨3, ![2, 1024, 1024]⟩
abbrev S4x256x2048 : Shape := ⟨3, ![4, 256, 2048]⟩
abbrev S4 : Shape := ⟨1, ![4]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x1280 : Shape := ⟨3, ![1, 1024, 1280]⟩
abbrev S1024x1280 : Shape := ⟨2, ![1024, 1280]⟩
abbrev S4x8192x1280 : Shape := ⟨3, ![4, 8192, 1280]⟩
abbrev S4x8192x512 : Shape := ⟨3, ![4, 8192, 512]⟩
abbrev S4x8192x8x64 : Shape := ⟨4, ![4, 8192, 8, 64]⟩
abbrev S4x8192x128 : Shape := ⟨3, ![4, 8192, 128]⟩
abbrev S4x8192x2x64 : Shape := ⟨4, ![4, 8192, 2, 64]⟩
abbrev S4x8192x8x32 : Shape := ⟨4, ![4, 8192, 8, 32]⟩
abbrev S4x8192x2x32 : Shape := ⟨4, ![4, 8192, 2, 32]⟩
abbrev S1x8 : Shape := ⟨2, ![1, 8]⟩
abbrev S8 : Shape := ⟨1, ![8]⟩
abbrev S4x64x128x2x4x64 : Shape := ⟨6, ![4, 64, 128, 2, 4, 64]⟩
abbrev S4x64x128x2x64 : Shape := ⟨5, ![4, 64, 128, 2, 64]⟩
abbrev S4x63x128x2x64 : Shape := ⟨5, ![4, 63, 128, 2, 64]⟩
abbrev S4x64x256x2x64 : Shape := ⟨5, ![4, 64, 256, 2, 64]⟩
abbrev S4x2x64x256x128x4 : Shape := ⟨6, ![4, 2, 64, 256, 128, 4]⟩
abbrev S4x2x4x64x128x256 : Shape := ⟨6, ![4, 2, 4, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x2x4x1x1x1 : Shape := ⟨6, ![1, 2, 4, 1, 1, 1]⟩
abbrev S4x2x4x64x128x1 : Shape := ⟨6, ![4, 2, 4, 64, 128, 1]⟩
abbrev S4x2x4x64x128x257 : Shape := ⟨6, ![4, 2, 4, 64, 128, 257]⟩
abbrev S4x2x4x64x128 : Shape := ⟨5, ![4, 2, 4, 64, 128]⟩
abbrev S4x64x2x64x4x128 : Shape := ⟨6, ![4, 64, 2, 64, 4, 128]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S4x8192x4x128 : Shape := ⟨4, ![4, 8192, 4, 128]⟩
abbrev S4x8193x4x128 : Shape := ⟨4, ![4, 8193, 4, 128]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S1x8192x4x1 : Shape := ⟨4, ![1, 8192, 4, 1]⟩
abbrev S4x128x4x8192 : Shape := ⟨4, ![4, 128, 4, 8192]⟩
abbrev S4x128 : Shape := ⟨2, ![4, 128]⟩
abbrev S1x1x4x128 : Shape := ⟨4, ![1, 1, 4, 128]⟩
abbrev S1x1x512 : Shape := ⟨3, ![1, 1, 512]⟩
abbrev S1x1024x1024 : Shape := ⟨3, ![1, 1024, 1024]⟩
abbrev S1024x1024 : Shape := ⟨2, ![1024, 1024]⟩
abbrev S4x8192x4x256 : Shape := ⟨4, ![4, 8192, 4, 256]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S32768x1024 : Shape := ⟨2, ![32768, 1024]⟩

abbrev nBuf : Space → Nat
  | .hbm => 311
  | .vmem => 0
  | .smem => 0
  | _ => 0

abbrev hbmTy0_0 (i : Nat) : BufTy := match i % 128 with
  | 0 => ⟨S4x8192x1024, .f32⟩
  | 1 => ⟨S4x8192x1x32, .f32⟩
  | 2 => ⟨S4x8192x1x32, .f32⟩
  | 3 => ⟨S2x1024, .f32⟩
  | 4 => ⟨S2x1024x1280, .f32⟩
  | 5 => ⟨S2x8, .f32⟩
  | 6 => ⟨S2x4x128x128, .f32⟩
  | 7 => ⟨S2x512, .f32⟩
  | 8 => ⟨S2x512, .f32⟩
  | 9 => ⟨S2x512, .f32⟩
  | 10 => ⟨S2x1024x1024, .f32⟩
  | 11 => ⟨S2x1024, .f32⟩
  | 12 => ⟨S2x1024x1024, .f32⟩
  | 13 => ⟨S4x256x2048, .f32⟩
  | 14 => ⟨S2x1024x1024, .f32⟩
  | 15 => ⟨S4, .i32⟩
  | 16 => ⟨S1x1024, .f32⟩
  | 17 => ⟨S1024, .f32⟩
  | 18 => ⟨S4x8192x1024, .f32⟩
  | 19 => ⟨S_, .f32⟩
  | 20 => ⟨S4x8192, .f32⟩
  | 21 => ⟨S4x8192x1, .f32⟩
  | 22 => ⟨S_, .f32⟩
  | 23 => ⟨S4x8192x1, .f32⟩
  | 24 => ⟨S4x8192x1, .f32⟩
  | 25 => ⟨S_, .f32⟩
  | 26 => ⟨S4x8192x1, .f32⟩
  | 27 => ⟨S4x8192x1, .f32⟩
  | 28 => ⟨S4x8192x1, .f32⟩
  | 29 => ⟨S4x8192x1024, .f32⟩
  | 30 => ⟨S4x8192x1024, .f32⟩
  | 31 => ⟨S1x1x1024, .f32⟩
  | 32 => ⟨S4x8192x1024, .f32⟩
  | 33 => ⟨S4x8192x1024, .f32⟩
  | 34 => ⟨S1x1024x1280, .f32⟩
  | 35 => ⟨S1024x1280, .f32⟩
  | 36 => ⟨S4x8192x1280, .f32⟩
  | 37 => ⟨S4x8192x512, .f32⟩
  | 38 => ⟨S4x8192x8x64, .f32⟩
  | 39 => ⟨S4x8192x128, .f32⟩
  | 40 => ⟨S4x8192x2x64, .f32⟩
  | 41 => ⟨S4x8192x128, .f32⟩
  | 42 => ⟨S4x8192x2x64, .f32⟩
  | 43 => ⟨S4x8192x512, .f32⟩
  | 44 => ⟨S4x8192x8x32, .f32⟩
  | 45 => ⟨S4x8192x8x32, .f32⟩
  | 46 => ⟨S4x8192x8x32, .f32⟩
  | 47 => ⟨S4x8192x8x32, .f32⟩
  | 48 => ⟨S4x8192x8x32, .f32⟩
  | 49 => ⟨S4x8192x8x32, .f32⟩
  | 50 => ⟨S4x8192x8x32, .f32⟩
  | 51 => ⟨S4x8192x8x32, .f32⟩
  | 52 => ⟨S4x8192x8x32, .f32⟩
  | 53 => ⟨S4x8192x8x32, .f32⟩
  | 54 => ⟨S4x8192x8x32, .f32⟩
  | 55 => ⟨S4x8192x8x32, .f32⟩
  | 56 => ⟨S4x8192x8x64, .f32⟩
  | 57 => ⟨S4x8192x2x32, .f32⟩
  | 58 => ⟨S4x8192x2x32, .f32⟩
  | 59 => ⟨S4x8192x2x32, .f32⟩
  | 60 => ⟨S4x8192x2x32, .f32⟩
  | 61 => ⟨S4x8192x2x32, .f32⟩
  | 62 => ⟨S4x8192x2x32, .f32⟩
  | 63 => ⟨S4x8192x2x32, .f32⟩
  | 64 => ⟨S4x8192x2x32, .f32⟩
  | 65 => ⟨S4x8192x2x32, .f32⟩
  | 66 => ⟨S4x8192x2x32, .f32⟩
  | 67 => ⟨S4x8192x2x32, .f32⟩
  | 68 => ⟨S4x8192x2x32, .f32⟩
  | 69 => ⟨S4x8192x2x64, .f32⟩
  | 70 => ⟨S1x8, .f32⟩
  | 71 => ⟨S8, .f32⟩
  | 72 => ⟨S4x64x128x2x4x64, .f32⟩
  | 73 => ⟨S4x64x128x2x64, .f32⟩
  | 74 => ⟨S4x63x128x2x64, .f32⟩
  | 75 => ⟨S_, .i32⟩
  | 76 => ⟨S_, .f32⟩
  | 77 => ⟨S4x64x128x2x64, .f32⟩
  | 78 => ⟨S4x64x256x2x64, .f32⟩
  | 79 => ⟨S4x64x128x2x64, .f32⟩
  | 80 => ⟨S4x63x128x2x64, .f32⟩
  | 81 => ⟨S_, .i32⟩
  | 82 => ⟨S_, .f32⟩
  | 83 => ⟨S4x64x128x2x64, .f32⟩
  | 84 => ⟨S4x64x256x2x64, .f32⟩
  | 85 => ⟨S4x2x64x256x128x4, .f32⟩
  | 86 => ⟨S4x2x4x64x128x256, .f32⟩
  | 87 => ⟨S_, .f32⟩
  | 88 => ⟨S4x2x4x64x128x256, .f32⟩
  | 89 => ⟨S4x2x4x64x128x256, .f32⟩
  | 90 => ⟨S128, .i32⟩
  | 91 => ⟨S128x1, .i32⟩
  | 92 => ⟨S256, .i32⟩
  | 93 => ⟨S1x256, .i32⟩
  | 94 => ⟨S_, .i32⟩
  | 95 => ⟨S128x1, .i32⟩
  | 96 => ⟨S128x1, .i32⟩
  | 97 => ⟨S128x256, .i32⟩
  | 98 => ⟨S128x256, .i32⟩
  | 99 => ⟨S128x256, .i32⟩
  | 100 => ⟨S64, .i32⟩
  | 101 => ⟨S64x1x1, .i32⟩
  | 102 => ⟨S_, .i32⟩
  | 103 => ⟨S64x1x1, .i32⟩
  | 104 => ⟨S64x1x1, .i32⟩
  | 105 => ⟨S_, .i32⟩
  | 106 => ⟨S64x1x1, .i32⟩
  | 107 => ⟨S64x1x1, .i32⟩
  | 108 => ⟨S1x1x256, .i32⟩
  | 109 => ⟨S64x1x256, .i32⟩
  | 110 => ⟨S64x1x256, .i32⟩
  | 111 => ⟨S64x1x256, .i32⟩
  | 112 => ⟨S_, .i32⟩
  | 113 => ⟨S128x256, .i32⟩
  | 114 => ⟨S128x256, .i1⟩
  | 115 => ⟨S1x128x256, .i1⟩
  | 116 => ⟨S_, .i32⟩
  | 117 => ⟨S128x256, .i32⟩
  | 118 => ⟨S128x256, .i1⟩
  | 119 => ⟨S1x128x256, .i1⟩
  | 120 => ⟨S1x128x256, .i1⟩
  | 121 => ⟨S_, .i32⟩
  | 122 => ⟨S64x1x256, .i32⟩
  | 123 => ⟨S64x1x256, .i1⟩
  | 124 => ⟨S64x128x256, .i1⟩
  | 125 => ⟨S64x128x256, .i1⟩
  | 126 => ⟨S64x128x256, .i1⟩
  | 127 => ⟨S_, .f32⟩
  | _ => ⟨S4x8192x1024, .f32⟩

abbrev hbmTy0_1 (i : Nat) : BufTy := match i % 128 with
  | 0 => ⟨S_, .f32⟩
  | 1 => ⟨S4x2x4x64x128x256, .i1⟩
  | 2 => ⟨S4x2x4x64x128x256, .f32⟩
  | 3 => ⟨S4x2x4x64x128x256, .f32⟩
  | 4 => ⟨S1x2x4x1x1x1, .f32⟩
  | 5 => ⟨S4x2x4x64x128x1, .f32⟩
  | 6 => ⟨S4x2x4x64x128x257, .f32⟩
  | 7 => ⟨S_, .f32⟩
  | 8 => ⟨S4x2x4x64x128, .f32⟩
  | 9 => ⟨S_, .f32⟩
  | 10 => ⟨S4x2x4x64x128, .f32⟩
  | 11 => ⟨S4x2x4x64x128, .f32⟩
  | 12 => ⟨S4x2x4x64x128x1, .f32⟩
  | 13 => ⟨S4x2x4x64x128x257, .f32⟩
  | 14 => ⟨S4x2x4x64x128x257, .f32⟩
  | 15 => ⟨S4x2x4x64x128x257, .f32⟩
  | 16 => ⟨S_, .f32⟩
  | 17 => ⟨S4x2x4x64x128, .f32⟩
  | 18 => ⟨S4x2x4x64x128x1, .f32⟩
  | 19 => ⟨S4x2x4x64x128x257, .f32⟩
  | 20 => ⟨S4x2x4x64x128x257, .f32⟩
  | 21 => ⟨S4x2x4x64x128x256, .f32⟩
  | 22 => ⟨S4x64x2x64x4x128, .f32⟩
  | 23 => ⟨S4x64x128x2x4x64, .f32⟩
  | 24 => ⟨S4x8192x512, .f32⟩
  | 25 => ⟨S1x4x128x128, .f32⟩
  | 26 => ⟨S4x128x128, .f32⟩
  | 27 => ⟨S1x512, .f32⟩
  | 28 => ⟨S512, .f32⟩
  | 29 => ⟨S4x8192x4x128, .f32⟩
  | 30 => ⟨S_, .f32⟩
  | 31 => ⟨S_, .f32⟩
  | 32 => ⟨S4x8192x4x128, .f32⟩
  | 33 => ⟨S_, .i32⟩
  | 34 => ⟨S_, .f32⟩
  | 35 => ⟨S4x8193x4x128, .f32⟩
  | 36 => ⟨S8192, .i32⟩
  | 37 => ⟨S8192x1, .i32⟩
  | 38 => ⟨S1x4, .i32⟩
  | 39 => ⟨S_, .i32⟩
  | 40 => ⟨S8192x1, .i32⟩
  | 41 => ⟨S8192x1, .i32⟩
  | 42 => ⟨S8192x4, .i32⟩
  | 43 => ⟨S8192x4, .i32⟩
  | 44 => ⟨S8192x4, .i32⟩
  | 45 => ⟨S_, .i32⟩
  | 46 => ⟨S8192x4, .i32⟩
  | 47 => ⟨S8192x4, .i32⟩
  | 48 => ⟨S4, .i32⟩
  | 49 => ⟨S1x4, .i32⟩
  | 50 => ⟨S4x8192x4x128, .f32⟩
  | 51 => ⟨S_, .i32⟩
  | 52 => ⟨S8192x4, .i32⟩
  | 53 => ⟨S8192x4, .i1⟩
  | 54 => ⟨S_, .i32⟩
  | 55 => ⟨S8192x4, .i32⟩
  | 56 => ⟨S8192x4, .i32⟩
  | 57 => ⟨S8192x4, .i32⟩
  | 58 => ⟨S_, .i32⟩
  | 59 => ⟨S1x4, .i32⟩
  | 60 => ⟨S1x4, .i1⟩
  | 61 => ⟨S_, .i32⟩
  | 62 => ⟨S1x4, .i32⟩
  | 63 => ⟨S1x4, .i32⟩
  | 64 => ⟨S1x4, .i32⟩
  | 65 => ⟨S8192x4, .i32⟩
  | 66 => ⟨S8192x4x1, .i32⟩
  | 67 => ⟨S8192x4x1, .i32⟩
  | 68 => ⟨S8192x4x2, .i32⟩
  | 69 => ⟨S4x8192x4x128, .f32⟩
  | 70 => ⟨S4x8192x4x128, .f32⟩
  | 71 => ⟨S_, .i32⟩
  | 72 => ⟨S8192x1, .i32⟩
  | 73 => ⟨S8192x1, .i32⟩
  | 74 => ⟨S8192x4, .i32⟩
  | 75 => ⟨S8192x4, .i32⟩
  | 76 => ⟨S8192x4, .i32⟩
  | 77 => ⟨S8192x4, .f32⟩
  | 78 => ⟨S1x8192x4x1, .f32⟩
  | 79 => ⟨S4x8192x4x128, .f32⟩
  | 80 => ⟨S4x8192x4x128, .f32⟩
  | 81 => ⟨S4x8192x4x128, .f32⟩
  | 82 => ⟨S4x128x4x8192, .f32⟩
  | 83 => ⟨S4x8192x4x128, .f32⟩
  | 84 => ⟨S4x128, .f32⟩
  | 85 => ⟨S1x1x4x128, .f32⟩
  | 86 => ⟨S4x8192x4x128, .f32⟩
  | 87 => ⟨S4x8192x4x128, .f32⟩
  | 88 => ⟨S4x8192x512, .f32⟩
  | 89 => ⟨S1x512, .f32⟩
  | 90 => ⟨S512, .f32⟩
  | 91 => ⟨S4x8192x512, .f32⟩
  | 92 => ⟨S_, .f32⟩
  | 93 => ⟨S4x8192, .f32⟩
  | 94 => ⟨S4x8192x1, .f32⟩
  | 95 => ⟨S_, .f32⟩
  | 96 => ⟨S4x8192x1, .f32⟩
  | 97 => ⟨S4x8192x1, .f32⟩
  | 98 => ⟨S_, .f32⟩
  | 99 => ⟨S4x8192x1, .f32⟩
  | 100 => ⟨S4x8192x1, .f32⟩
  | 101 => ⟨S4x8192x1, .f32⟩
  | 102 => ⟨S4x8192x512, .f32⟩
  | 103 => ⟨S4x8192x512, .f32⟩
  | 104 => ⟨S1x1x512, .f32⟩
  | 105 => ⟨S4x8192x512, .f32⟩
  | 106 => ⟨S4x8192x512, .f32⟩
  | 107 => ⟨S1x512, .f32⟩
  | 108 => ⟨S512, .f32⟩
  | 109 => ⟨S4x8192x512, .f32⟩
  | 110 => ⟨S_, .f32⟩
  | 111 => ⟨S4x8192, .f32⟩
  | 112 => ⟨S4x8192x1, .f32⟩
  | 113 => ⟨S_, .f32⟩
  | 114 => ⟨S4x8192x1, .f32⟩
  | 115 => ⟨S4x8192x1, .f32⟩
  | 116 => ⟨S_, .f32⟩
  | 117 => ⟨S4x8192x1, .f32⟩
  | 118 => ⟨S4x8192x1, .f32⟩
  | 119 => ⟨S4x8192x1, .f32⟩
  | 120 => ⟨S4x8192x512, .f32⟩
  | 121 => ⟨S4x8192x512, .f32⟩
  | 122 => ⟨S1x1x512, .f32⟩
  | 123 => ⟨S4x8192x512, .f32⟩
  | 124 => ⟨S4x8192x512, .f32⟩
  | 125 => ⟨S4x8192x1024, .f32⟩
  | 126 => ⟨S1x1024x1024, .f32⟩
  | 127 => ⟨S1024x1024, .f32⟩
  | _ => ⟨S4x8192x1024, .f32⟩

abbrev hbmTy0_2 (i : Nat) : BufTy := match i % 128 with
  | 0 => ⟨S4x8192x1024, .f32⟩
  | 1 => ⟨S4x8192x1024, .f32⟩
  | 2 => ⟨S1x1024, .f32⟩
  | 3 => ⟨S1024, .f32⟩
  | 4 => ⟨S4x8192x1024, .f32⟩
  | 5 => ⟨S_, .f32⟩
  | 6 => ⟨S4x8192, .f32⟩
  | 7 => ⟨S4x8192x1, .f32⟩
  | 8 => ⟨S_, .f32⟩
  | 9 => ⟨S4x8192x1, .f32⟩
  | 10 => ⟨S4x8192x1, .f32⟩
  | 11 => ⟨S_, .f32⟩
  | 12 => ⟨S4x8192x1, .f32⟩
  | 13 => ⟨S4x8192x1, .f32⟩
  | 14 => ⟨S4x8192x1, .f32⟩
  | 15 => ⟨S4x8192x1024, .f32⟩
  | 16 => ⟨S4x8192x1024, .f32⟩
  | 17 => ⟨S1x1x1024, .f32⟩
  | 18 => ⟨S4x8192x1024, .f32⟩
  | 19 => ⟨S4x8192x1024, .f32⟩
  | 20 => ⟨S1x1024x1024, .f32⟩
  | 21 => ⟨S1024x1024, .f32⟩
  | 22 => ⟨S1x1024x1024, .f32⟩
  | 23 => ⟨S1024x1024, .f32⟩
  | 24 => ⟨S4x8192x1024, .f32⟩
  | 25 => ⟨S4x8192x4x256, .f32⟩
  | 26 => ⟨S4x256x2x4x256, .f32⟩
  | 27 => ⟨S4x256x1x4x256, .f32⟩
  | 28 => ⟨S4x256x4x256, .f32⟩
  | 29 => ⟨S4x256x1x4x256, .f32⟩
  | 30 => ⟨S4x256x4x256, .f32⟩
  | 31 => ⟨S4x4x8192x256, .f32⟩
  | 32 => ⟨S_, .f32⟩
  | 33 => ⟨S4x4x8192x256, .f32⟩
  | 34 => ⟨S4x4x8192x256, .f32⟩
  | 35 => ⟨S_, .f32⟩
  | 36 => ⟨S4x4x8192, .f32⟩
  | 37 => ⟨S_, .f32⟩
  | 38 => ⟨S4x4x8192, .f32⟩
  | 39 => ⟨S4x4x8192, .f32⟩
  | 40 => ⟨S4x4x8192x1, .f32⟩
  | 41 => ⟨S4x4x8192x256, .f32⟩
  | 42 => ⟨S4x4x8192x256, .f32⟩
  | 43 => ⟨S4x4x8192x256, .f32⟩
  | 44 => ⟨S_, .f32⟩
  | 45 => ⟨S4x4x8192, .f32⟩
  | 46 => ⟨S4x4x8192x1, .f32⟩
  | 47 => ⟨S4x4x8192x256, .f32⟩
  | 48 => ⟨S4x4x8192x256, .f32⟩
  | 49 => ⟨S4x4x256x8192, .f32⟩
  | 50 => ⟨S4x8192x4x256, .f32⟩
  | 51 => ⟨S4x8192x1024, .f32⟩
  | 52 => ⟨S4x8192x1024, .f32⟩
  | 53 => ⟨S4x8192x1024, .f32⟩
  | 54 => ⟨S32768x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_2 : Ref sig .tc := ⟨.hbm, 75, rfl⟩
abbrev main_call0_v0 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_3 : Ref sig .tc := ⟨.hbm, 81, rfl⟩
abbrev main_call1_v0 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_4 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_5 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_6 : Ref sig .tc := ⟨.hbm, 102, rfl⟩
abbrev main_v77 : Ref sig .tc := ⟨.hbm, 103, rfl⟩
abbrev main_v78 : Ref sig .tc := ⟨.hbm, 104, rfl⟩
abbrev main_c_7 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_8 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_9 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_10 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_11 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_12 : Ref sig .tc := ⟨.hbm, 135, rfl⟩
abbrev main_v101 : Ref sig .tc := ⟨.hbm, 136, rfl⟩
abbrev main_cst_13 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_14 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_call3_call0_cst : Ref sig .tc := ⟨.hbm, 158, rfl⟩
abbrev main_call3_call0_v0 : Ref sig .tc := ⟨.hbm, 159, rfl⟩
abbrev main_v121 : Ref sig .tc := ⟨.hbm, 160, rfl⟩
abbrev main_c_15 : Ref sig .tc := ⟨.hbm, 161, rfl⟩
abbrev main_call4_v0 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_c_16 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_c_17 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_18 : Ref sig .tc := ⟨.hbm, 179, rfl⟩
abbrev main_v136 : Ref sig .tc := ⟨.hbm, 180, rfl⟩
abbrev main_v137 : Ref sig .tc := ⟨.hbm, 181, rfl⟩
abbrev main_c_19 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_c_20 : Ref sig .tc := ⟨.hbm, 186, rfl⟩
abbrev main_v141 : Ref sig .tc := ⟨.hbm, 187, rfl⟩
abbrev main_v142 : Ref sig .tc := ⟨.hbm, 188, rfl⟩
abbrev main_c_21 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_c_22 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_23 : Ref sig .tc := ⟨.hbm, 220, rfl⟩
abbrev main_v172 : Ref sig .tc := ⟨.hbm, 221, rfl⟩
abbrev main_v173 : Ref sig .tc := ⟨.hbm, 222, rfl⟩
abbrev main_cst_24 : Ref sig .tc := ⟨.hbm, 223, rfl⟩
abbrev main_v174 : Ref sig .tc := ⟨.hbm, 224, rfl⟩
abbrev main_v175 : Ref sig .tc := ⟨.hbm, 225, rfl⟩
abbrev main_cst_25 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_cst_26 : Ref sig .tc := ⟨.hbm, 238, rfl⟩
abbrev main_v187 : Ref sig .tc := ⟨.hbm, 239, rfl⟩
abbrev main_v188 : Ref sig .tc := ⟨.hbm, 240, rfl⟩
abbrev main_cst_27 : Ref sig .tc := ⟨.hbm, 241, rfl⟩
abbrev main_v189 : Ref sig .tc := ⟨.hbm, 242, rfl⟩
abbrev main_v190 : Ref sig .tc := ⟨.hbm, 243, rfl⟩
abbrev main_cst_28 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_cst_29 : Ref sig .tc := ⟨.hbm, 261, rfl⟩
abbrev main_v207 : Ref sig .tc := ⟨.hbm, 262, rfl⟩
abbrev main_v208 : Ref sig .tc := ⟨.hbm, 263, rfl⟩
abbrev main_cst_30 : Ref sig .tc := ⟨.hbm, 264, rfl⟩
abbrev main_v209 : Ref sig .tc := ⟨.hbm, 265, rfl⟩
abbrev main_v210 : Ref sig .tc := ⟨.hbm, 266, rfl⟩
abbrev main_cst_31 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_cst_32 : Ref sig .tc := ⟨.hbm, 288, rfl⟩
abbrev main_v231 : Ref sig .tc := ⟨.hbm, 289, rfl⟩
abbrev main_v232 : Ref sig .tc := ⟨.hbm, 290, rfl⟩
abbrev main_cst_33 : Ref sig .tc := ⟨.hbm, 291, rfl⟩
abbrev main_v233 : Ref sig .tc := ⟨.hbm, 292, rfl⟩
abbrev main_cst_34 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_cst_35 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩

abbrev nD : Nat := 1
abbrev τ : Topo := Topo.v7x

variable {F : FTy → Type} [FloatOps F]

def κ : String → Option EReal := fun
  | "mask" => some ⊥
  | _ => none
-- ==== Ffn.lean ====
abbrev S4x8192x1024 : Shape := ⟨3, ![4, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S32768x1024 : Shape := ⟨2, ![32768, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x1536 : Shape := ⟨2, ![1024, 1536]⟩
abbrev S256x1024 : Shape := ⟨2, ![256, 1024]⟩
abbrev S256x1536 : Shape := ⟨2, ![256, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 18
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S32768x1024, .f32⟩
  | .hbm, ⟨7, _⟩ => ⟨S1x1024x2816, .f32⟩
  | .hbm, ⟨8, _⟩ => ⟨S1024x2816, .f32⟩
  | .hbm, ⟨9, _⟩ => ⟨S1024x2816, .bf16⟩
  | .hbm, ⟨10, _⟩ => ⟨S1x1024x2816, .f32⟩
  | .hbm, ⟨11, _⟩ => ⟨S1024x2816, .f32⟩
  | .hbm, ⟨12, _⟩ => ⟨S1024x2816, .bf16⟩
  | .hbm, ⟨13, _⟩ => ⟨S1x2816x1024, .f32⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S4x8192x1024 : Shape := ⟨3, ![4, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S_, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S4x8192x1024, .f32⟩
  | .hbm, ⟨43, _⟩ => ⟨S_, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S4x8192x1, .f32⟩
  | .hbm, ⟨58, _⟩ => ⟨S4x8192x1024, .f32⟩
  | .hbm, ⟨59, _⟩ => ⟨S4x8192x1024, .f32⟩
  | .hbm, ⟨60, _⟩ => ⟨S1x1x1024, .f32⟩
  | .hbm, ⟨61, _⟩ => ⟨S4x8192x1024, .f32⟩
  | .hbm, ⟨62, _⟩ => ⟨S4x8192x1024, .f32⟩
  | .hbm, ⟨63, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== FfnFirst.lean ====
abbrev S4x8192x1024 : Shape := ⟨3, ![4, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1280 : Shape := ⟨3, ![2, 1024, 1280]⟩
abbrev S2x4x128x128 : Shape := ⟨4, ![2, 4, 128, 128]⟩
abbrev S2x1024x1024 : Shape := ⟨3, ![2, 1024, 1024]⟩
abbrev S2x1024x2048 : Shape := ⟨3, ![2, 1024, 2048]⟩
abbrev S1024 : Shape := ⟨1, ![1024]⟩
abbrev S2x512x128 : Shape := ⟨3, ![2, 512, 128]⟩
abbrev S32768x1024 : Shape := ⟨2, ![32768, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024 : Shape := ⟨2, ![1, 1024]⟩
abbrev S1024x1280 : Shape := ⟨2, ![1024, 1280]⟩
abbrev S512x128 : Shape := ⟨2, ![512, 128]⟩
abbrev S1024x1024 : Shape := ⟨2, ![1024, 1024]⟩
abbrev S1024x2048 : Shape := ⟨2, ![1024, 2048]⟩
abbrev S1x32x1280 : Shape := ⟨3, ![1, 32, 1280]⟩
abbrev S1x16x128 : Shape := ⟨3, ![1, 16, 128]⟩
abbrev S1x32x1024 : Shape := ⟨3, ![1, 32, 1024]⟩
abbrev S1x32x2048 : Shape := ⟨3, ![1, 32, 2048]⟩
abbrev S1x32x2816 : Shape := ⟨3, ![1, 32, 2816]⟩
abbrev S1x128x1024 : Shape := ⟨3, ![1, 128, 1024]⟩
abbrev S32x1280 : Shape := ⟨2, ![32, 1280]⟩
abbrev S16x128 : Shape := ⟨2, ![16, 128]⟩
abbrev S32x1024 : Shape := ⟨2, ![32, 1024]⟩
abbrev S32x2048 : Shape := ⟨2, ![32, 2048]⟩
abbrev S32x2816 : Shape := ⟨2, ![32, 2816]⟩
abbrev S128x1024 : Shape := ⟨2, ![128, 1024]⟩
abbrev S1024x1 : Shape := ⟨2, ![1024, 1]⟩
abbrev S1024x1536 : Shape := ⟨2, ![1024, 1536]⟩
abbrev S256x1024 : Shape := ⟨2, ![256, 1024]⟩
abbrev S256x1536 : Shape := ⟨2, ![256, 1536]⟩
abbrev S1536x1024 : Shape := ⟨2, ![1536, 1024]⟩
abbrev S1280x1024 : Shape := ⟨2, ![1280, 1024]⟩

abbrev nBuf : Space → Nat
  | .hbm => 37
  | .vmem => 45
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024x1280, .f32⟩
  | .hbm, ⟨6, _⟩ => ⟨S2x4x128x128, .f32⟩
  | .hbm, ⟨7, _⟩ => ⟨S2x1024x1024, .f32⟩
  | .hbm, ⟨8, _⟩ => ⟨S2x1024x1024, .f32⟩
  | .hbm, ⟨9, _⟩ => ⟨S2x1024x2048, .f32⟩
  | .hbm, ⟨10, _⟩ => ⟨S2x1024x1024, .f32⟩
  | .hbm, ⟨11, _⟩ => ⟨S2x1024x2816, .f32⟩
  | .hbm, ⟨12, _⟩ => ⟨S2x1024x2816, .f32⟩
  | .hbm, ⟨13, _⟩ => ⟨S2x2816x1024, .f32⟩
  | .hbm, ⟨14, _⟩ => ⟨S1024, .f32⟩
  | .hbm, ⟨15, _⟩ => ⟨S2x512x128, .f32⟩
  | .hbm, ⟨16, _⟩ => ⟨S32768x1024, .f32⟩
  | .hbm, ⟨17, _⟩ => ⟨S1x1024x2816, .f32⟩
  | .hbm, ⟨18, _⟩ => ⟨S1024x2816, .f32⟩
  | .hbm, ⟨19, _⟩ => ⟨S1024x2816, .bf16⟩
  | .hbm, ⟨20, _⟩ => ⟨S1x1024x2816, .f32⟩
  | .hbm, ⟨21, _⟩ => ⟨S1024x2816, .f32⟩
  | .hbm, ⟨22, _⟩ => ⟨S1024x2816, .bf16⟩
  | .hbm, ⟨23, _⟩ => ⟨S1x2816x1024, .f32⟩
  | .hbm, ⟨24, _⟩ => ⟨S2816x1024, .f32⟩
  | .hbm, ⟨25, _⟩ => ⟨S2816x1024, .bf16⟩
  | .hbm, ⟨26, _⟩ => ⟨S1x1024, .f32⟩
  | .hbm, ⟨27, _⟩ => ⟨S32768x1024, .f32⟩
  | .hbm, ⟨28, _⟩ => ⟨S1024x1280, .bf16⟩
  | .hbm, ⟨29, _⟩ => ⟨S512x128, .bf16⟩
  | .hbm, ⟨30, _⟩ => ⟨S1024x1024, .bf16⟩
  | .hbm, ⟨31, _⟩ => ⟨S1024x1024, .bf16⟩
  | .hbm, ⟨32, _⟩ => ⟨S1024x2048, .bf16⟩
  | .hbm, ⟨33, _⟩ => ⟨S1024x1024, .bf16⟩
  | .hbm, ⟨34, _⟩ => ⟨S1024x2816, .bf16⟩
  | .hbm, ⟨35, _⟩ => ⟨S1024x2816, .bf16⟩
  | .hbm, ⟨36, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x32x1280, .f32⟩
  | .local _ .vmem, ⟨8, _⟩ => ⟨S1x32x1280, .f32⟩
  | .local _ .vmem, ⟨9, _⟩ => ⟨S1x16x128, .f32⟩
  | .local _ .vmem, ⟨10, _⟩ => ⟨S1x16x128, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x2048, .f32⟩
  | .local _ .vmem, ⟨16, _⟩ => ⟨S1x32x2048, .f32⟩
  | .local _ .vmem, ⟨17, _⟩ => ⟨S1x32x1024, .f32⟩
  | .local _ .vmem, ⟨18, _⟩ => ⟨S1x32x1024, .f32⟩
  | .local _ .vmem, ⟨19, _⟩ => ⟨S1x32x2816, .f32⟩
  | .local _ .vmem, ⟨20, _⟩ => ⟨S1x32x2816, .f32⟩
  | .local _ .vmem, ⟨21, _⟩ => ⟨S1x32x2816, .f32⟩
  | .local _ .vmem, ⟨22, _⟩ => ⟨S1x32x2816, .f32⟩
  | .local _ .vmem, ⟨23, _⟩ => ⟨S1x128x1024, .f32⟩
  | .local _ .vmem, ⟨24, _⟩ => ⟨S1x128x1024, .f32⟩
  | .local _ .vmem, ⟨25, _⟩ => ⟨S1024x1024, .f32⟩
  | .local _ .vmem, ⟨26, _⟩ => ⟨S1024x1024, .f32⟩
  | .local _ .vmem, ⟨27, _⟩ => ⟨S32x1280, .bf16⟩
  | .local _ .vmem, ⟨28, _⟩ => ⟨S32x1280, .bf16⟩
  | .local _ .vmem, ⟨29, _⟩ => ⟨S16x128, .bf16⟩
  | .local _ .vmem, ⟨30, _⟩ => ⟨S16x128, .bf16⟩
  | .local _ .vmem, ⟨31, _⟩ => ⟨S32x1024, .bf16⟩
  | .local _ .vmem, ⟨32, _⟩ => ⟨S32x1024, .bf16⟩
  | .local _ .vmem, ⟨33, _⟩ => ⟨S32x1024, .bf16⟩
  | .local _ .vmem, ⟨34, _⟩ => ⟨S32x1024, .bf16⟩
  | .local _ .vmem, ⟨35, _⟩ => ⟨S32x2048, .bf16⟩
  | .local _ .vmem, ⟨36, _⟩ => ⟨S32x2048, .bf16⟩
  | .local _ .vmem, ⟨37, _⟩ => ⟨S32x1024, .bf16⟩
  | .local _ .vmem, ⟨38, _⟩ => ⟨S32x1024, .bf16⟩
  | .local _ .vmem, ⟨39, _⟩ => ⟨S32x2816, .bf16⟩
  | .local _ .vmem, ⟨40, _⟩ => ⟨S32x2816, .bf16⟩
  | .local _ .vmem, ⟨41, _⟩ => ⟨S32x2816, .bf16⟩
  | .local _ .vmem, ⟨42, _⟩ => ⟨S32x2816, .bf16⟩
  | .local _ .vmem, ⟨43, _⟩ => ⟨S128x1024, .bf16⟩
  | .local _ .vmem, ⟨44, _⟩ => ⟨S128x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v12_2 : Ref sig .tc := ⟨.hbm, 29, rfl⟩
abbrev main_v12_3 : Ref sig .tc := ⟨.hbm, 30, rfl⟩
abbrev main_v12_4 : Ref sig .tc := ⟨.hbm, 31, rfl⟩
abbrev main_v12_5 : Ref sig .tc := ⟨.hbm, 32, rfl⟩
abbrev main_v12_6 : Ref sig .tc := ⟨.hbm, 33, rfl⟩
abbrev main_v12_7 : Ref sig .tc := ⟨.hbm, 34, rfl⟩
abbrev main_v12_8 : Ref sig .tc := ⟨.hbm, 35, rfl⟩
abbrev main_v12_9 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x2816 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1280 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S32x2816 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x2816 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S128x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== FfnFirstReferenceIdeal.lean ====
abbrev S4x8192x1024 : Shape := ⟨3, ![4, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x1280 : Shape := ⟨3, ![2, 1024, 1280]⟩
abbrev S2x4x128x128 : Shape := ⟨4, ![2, 4, 128, 128]⟩
abbrev S2x1024x1024 : Shape := ⟨3, ![2, 1024, 1024]⟩
abbrev S2x1024x2048 : Shape := ⟨3, ![2, 1024, 2048]⟩
abbrev S1024 : Shape := ⟨1, ![1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x8192x2816 : Shape := ⟨3, ![4, 8192, 2816]⟩
abbrev S1x1024x1280 : Shape := ⟨3, ![1, 1024, 1280]⟩
abbrev S1024x1280 : Shape := ⟨2, ![1024, 1280]⟩
abbrev S1x4x128x128 : Shape := ⟨4, ![1, 4, 128, 128]⟩
abbrev S4x128x128 : Shape := ⟨3, ![4, 128, 128]⟩
abbrev S512x128 : Shape := ⟨2, ![512, 128]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S1024x2048 : Shape := ⟨2, ![1024, 2048]⟩
abbrev S32768x1024 : Shape := ⟨2, ![32768, 1024]⟩

abbrev nBuf : Space → Nat
  | .hbm => 85
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024x1280, .f32⟩
  | .hbm, ⟨6, _⟩ => ⟨S2x4x128x128, .f32⟩
  | .hbm, ⟨7, _⟩ => ⟨S2x1024x1024, .f32⟩
  | .hbm, ⟨8, _⟩ => ⟨S2x1024x1024, .f32⟩
  | .hbm, ⟨9, _⟩ => ⟨S2x1024x2048, .f32⟩
  | .hbm, ⟨10, _⟩ => ⟨S2x1024x1024, .f32⟩
  | .hbm, ⟨11, _⟩ => ⟨S2x1024x2816, .f32⟩
  | .hbm, ⟨12, _⟩ => ⟨S2x1024x2816, .f32⟩
  | .hbm, ⟨13, _⟩ => ⟨S2x2816x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S4x8192x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1024, .f32⟩
  | .hbm, ⟨29, _⟩ => ⟨S4x8192x1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S1x1024x2816, .f32⟩
  | .hbm, ⟨34, _⟩ => ⟨S1024x2816, .f32⟩
  | .hbm, ⟨35, _⟩ => ⟨S1x1024x2816, .f32⟩
  | .hbm, ⟨36, _⟩ => ⟨S1024x2816, .f32⟩
  | .hbm, ⟨37, _⟩ => ⟨S1x2816x1024, .f32⟩
  | .hbm, ⟨38, _⟩ => ⟨S2816x1024, .f32⟩
  | .hbm, ⟨39, _⟩ => ⟨S4x8192x2816, .f32⟩
  | .hbm, ⟨40, _⟩ => ⟨S4x8192x2816, .f32⟩
  | .hbm, ⟨41, _⟩ => ⟨S4x8192x2816, .f32⟩
  | .hbm, ⟨42, _⟩ => ⟨S_, .f32⟩
  | .hbm, ⟨43, _⟩ => ⟨S4x8192x2816, .f32⟩
  | .hbm, ⟨44, _⟩ => ⟨S4x8192x2816, .f32⟩
  | .hbm, ⟨45, _⟩ => ⟨S_, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S4x8192x2816, .f32⟩
  | .hbm, ⟨50, _⟩ => ⟨S4x8192x2816, .f32⟩
  | .hbm, ⟨51, _⟩ => ⟨S4x8192x1024, .f32⟩
  | .hbm, ⟨52, _⟩ => ⟨S_, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S1x1024x1280, .f32⟩
  | .hbm, ⟨57, _⟩ => ⟨S1024x1280, .f32⟩
  | .hbm, ⟨58, _⟩ => ⟨S1x4x128x128, .f32⟩
  | .hbm, ⟨59, _⟩ => ⟨S4x128x128, .f32⟩
  | .hbm, ⟨60, _⟩ => ⟨S512x128, .f32⟩
  | .hbm, ⟨61, _⟩ => ⟨S1x1024x1024, .f32⟩
  | .hbm, ⟨62, _⟩ => ⟨S1024x1024, .f32⟩
  | .hbm, ⟨63, _⟩ => ⟨S1x1024x1024, .f32⟩
  | .hbm, ⟨64, _⟩ => ⟨S1024x1024, .f32⟩
  | .hbm, ⟨65, _⟩ => ⟨S1x1024x2048, .f32⟩
  | .hbm, ⟨66, _⟩ => ⟨S1024x2048, .f32⟩
  | .hbm, ⟨67, _⟩ => ⟨S1x1024x1024, .f32⟩
  | .hbm, ⟨68, _⟩ => ⟨S1024x1024, .f32⟩
  | .hbm, ⟨69, _⟩ => ⟨S1x1024x2816, .f32⟩
  | .hbm, ⟨70, _⟩ => ⟨S1024x2816, .f32⟩
  | .hbm, ⟨71, _⟩ => ⟨S1x1024x2816, .f32⟩
  | .hbm, ⟨72, _⟩ => ⟨S1024x2816, .f32⟩
  | .hbm, ⟨73, _⟩ => ⟨S1x2816x1024, .f32⟩
  | .hbm, ⟨74, _⟩ => ⟨S2816x1024, .f32⟩
  | .hbm, ⟨75, _⟩ => ⟨S32768x1024, .f32⟩
  | .hbm, ⟨76, _⟩ => ⟨S1024x1280, .bf16⟩
  | .hbm, ⟨77, _⟩ => ⟨S512x128, .bf16⟩
  | .hbm, ⟨78, _⟩ => ⟨S1024x1024, .bf16⟩
  | .hbm, ⟨79, _⟩ => ⟨S1024x1024, .bf16⟩
  | .hbm, ⟨80, _⟩ => ⟨S1024x2048, .bf16⟩
  | .hbm, ⟨81, _⟩ => ⟨S1024x1024, .bf16⟩
  | .hbm, ⟨82, _⟩ => ⟨S1024x2816, .bf16⟩
  | .hbm, ⟨83, _⟩ => ⟨S1024x2816, .bf16⟩
  | .hbm, ⟨84, _⟩ => ⟨S2816x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]
-- ==== FfnSecond.lean ====
abbrev S4x8192x1024 : Shape := ⟨3, ![4, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S32768x1024 : Shape := ⟨2, ![32768, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1024 : Shape := ⟨2, ![1, 1024]⟩
abbrev S1024x1024 : Shape := ⟨2, ![1024, 1024]⟩
abbrev S1x32x2816 : Shape := ⟨3, ![1, 32, 2816]⟩
abbrev S1x128x1024 : Shape := ⟨3, ![1, 128, 1024]⟩
abbrev S32x2816 : Shape := ⟨2, ![32, 2816]⟩
abbrev S128x1024 : Shape := ⟨2, ![128, 1024]⟩
abbrev S1024x1 : Shape := ⟨2, ![1024, 1]⟩
abbrev S1024x1536 : Shape := ⟨2, ![1024, 1536]⟩
abbrev S256x1024 : Shape := ⟨2, ![256, 1024]⟩
abbrev S256x1536 : Shape := ⟨2, ![256, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 24
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S1024, .f32⟩
  | .hbm, ⟨9, _⟩ => ⟨S32768x1024, .f32⟩
  | .hbm, ⟨10, _⟩ => ⟨S1x1024x2816, .f32⟩
  | .hbm, ⟨11, _⟩ => ⟨S1024x2816, .f32⟩
  | .hbm, ⟨12, _⟩ => ⟨S1024x2816, .bf16⟩
  | .hbm, ⟨13, _⟩ => ⟨S1x1024x2816, .f32⟩
  | .hbm, ⟨14, _⟩ => ⟨S1024x2816, .f32⟩
  | .hbm, ⟨15, _⟩ => ⟨S1024x2816, .bf16⟩
  | .hbm, ⟨16, _⟩ => ⟨S1x2816x1024, .f32⟩
  | .hbm, ⟨17, _⟩ => ⟨S2816x1024, .f32⟩
  | .hbm, ⟨18, _⟩ => ⟨S2816x1024, .bf16⟩
  | .hbm, ⟨19, _⟩ => ⟨S1x1024, .f32⟩
  | .hbm, ⟨20, _⟩ => ⟨S32768x1024, .f32⟩
  | .hbm, ⟨21, _⟩ => ⟨S1024x2816, .bf16⟩
  | .hbm, ⟨22, _⟩ => ⟨S1024x2816, .bf16⟩
  | .hbm, ⟨23, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x32x2816, .f32⟩
  | .local _ .vmem, ⟨8, _⟩ => ⟨S1x32x2816, .f32⟩
  | .local _ .vmem, ⟨9, _⟩ => ⟨S1x32x2816, .f32⟩
  | .local _ .vmem, ⟨10, _⟩ => ⟨S1x32x2816, .f32⟩
  | .local _ .vmem, ⟨11, _⟩ => ⟨S1x128x1024, .f32⟩
  | .local _ .vmem, ⟨12, _⟩ => ⟨S1x128x1024, .f32⟩
  | .local _ .vmem, ⟨13, _⟩ => ⟨S1024x1024, .f32⟩
  | .local _ .vmem, ⟨14, _⟩ => ⟨S1024x1024, .f32⟩
  | .local _ .vmem, ⟨15, _⟩ => ⟨S32x2816, .bf16⟩
  | .local _ .vmem, ⟨16, _⟩ => ⟨S32x2816, .bf16⟩
  | .local _ .vmem, ⟨17, _⟩ => ⟨S32x2816, .bf16⟩
  | .local _ .vmem, ⟨18, _⟩ => ⟨S32x2816, .bf16⟩
  | .local _ .vmem, ⟨19, _⟩ => ⟨S128x1024, .bf16⟩
  | .local _ .vmem, ⟨20, _⟩ => ⟨S128x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  let c0_i32_0 : BitVec 32 := 0#32
  ![c1_i32.toNat, v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  let c0_i32_0 : BitVec 32 := 0#32
  ![c1_i32.toNat, v0.toNat, c0_i32.toNat]

def cc0_transform_8 (i : grid0.Coords) : Fin 3 → Nat :=
  let arg0 : BitVec 32 := BitVec.ofNat 32 (i 0).val
  let c21_i32 : BitVec 32 := 21#32
  let v0 : BitVec 32 := Scalar.minsi arg0 c21_i32
  let c1_i32 : BitVec 32 := 1#32
  let c0_i32 : BitVec 32 := 0#32
  let c0_i32_0 : BitVec 32 := 0#32
  ![c1_i32.toNat, v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnSecondReferenceIdeal.lean ====
abbrev S4x8192x1024 : Shape := ⟨3, ![4, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x8192x2816 : Shape := ⟨3, ![4, 8192, 2816]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1024, .f32⟩
  | .hbm, ⟨23, _⟩ => ⟨S4x8192x1024, .f32⟩
  | .hbm, ⟨24, _⟩ => ⟨S1x1x1024, .f32⟩
  | .hbm, ⟨25, _⟩ => ⟨S4x8192x1024, .f32⟩
  | .hbm, ⟨26, _⟩ => ⟨S4x8192x1024, .f32⟩
  | .hbm, ⟨27, _⟩ => ⟨S1x1024x2816, .f32⟩
  | .hbm, ⟨28, _⟩ => ⟨S1024x2816, .f32⟩
  | .hbm, ⟨29, _⟩ => ⟨S1x1024x2816, .f32⟩
  | .hbm, ⟨30, _⟩ => ⟨S1024x2816, .f32⟩
  | .hbm, ⟨31, _⟩ => ⟨S1x2816x1024, .f32⟩
  | .hbm, ⟨32, _⟩ => ⟨S2816x1024, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S_, .f32⟩
  | .hbm, ⟨40, _⟩ => ⟨S4x8192x2816, .f32⟩
  | .hbm, ⟨41, _⟩ => ⟨S4x8192x2816, .f32⟩
  | .hbm, ⟨42, _⟩ => ⟨S4x8192x2816, .f32⟩
  | .hbm, ⟨43, _⟩ => ⟨S4x8192x2816, .f32⟩
  | .hbm, ⟨44, _⟩ => ⟨S4x8192x2816, .f32⟩
  | .hbm, ⟨45, _⟩ => ⟨S4x8192x1024, .f32⟩
  | .hbm, ⟨46, _⟩ => ⟨S_, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S32768x1024, .f32⟩
  | .hbm, ⟨51, _⟩ => ⟨S1x1024x2816, .f32⟩
  | .hbm, ⟨52, _⟩ => ⟨S1024x2816, .f32⟩
  | .hbm, ⟨53, _⟩ => ⟨S1024x2816, .bf16⟩
  | .hbm, ⟨54, _⟩ => ⟨S1x1024x2816, .f32⟩
  | .hbm, ⟨55, _⟩ => ⟨S1024x2816, .f32⟩
  | .hbm, ⟨56, _⟩ => ⟨S1024x2816, .bf16⟩
  | .hbm, ⟨57, _⟩ => ⟨S1x2816x1024, .f32⟩
  | .hbm, ⟨58, _⟩ => ⟨S2816x1024, .f32⟩
  | .hbm, ⟨59, _⟩ => ⟨S2816x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Memory.lean ====
abbrev S4x256x1024 : Shape := ⟨3, ![4, 256, 1024]⟩
abbrev S2x1024 : Shape := ⟨2, ![2, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S4x256x2048 : Shape := ⟨3, ![4, 256, 2048]⟩
abbrev S1x256x1024 : Shape := ⟨3, ![1, 256, 1024]⟩
abbrev S1x256x2048 : Shape := ⟨3, ![1, 256, 2048]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x2048 : Shape := ⟨2, ![256, 2048]⟩

abbrev nBuf : Space → Nat
  | .hbm => 7
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S2x1024, .f32⟩
  | .hbm, ⟨2, _⟩ => ⟨S2x1024x2048, .f32⟩
  | .hbm, ⟨3, _⟩ => ⟨S1x1024x2048, .f32⟩
  | .hbm, ⟨4, _⟩ => ⟨S1024x2048, .f32⟩
  | .hbm, ⟨5, _⟩ => ⟨S1024x2048, .bf16⟩
  | .hbm, ⟨6, _⟩ => ⟨S4x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S2x1024, .f32⟩
  | .local _ .vmem, ⟨3, _⟩ => ⟨S1024x2048, .bf16⟩
  | .local _ .vmem, ⟨4, _⟩ => ⟨S1x256x2048, .bf16⟩
  | .local _ .vmem, ⟨5, _⟩ => ⟨S1x256x2048, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemoryReferenceIdeal.lean ====
abbrev S4x256x1024 : Shape := ⟨3, ![4, 256, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S4x256x2048 : Shape := ⟨3, ![4, 256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S2x1024, .f32⟩
  | .hbm, ⟨2, _⟩ => ⟨S2x1024x2048, .f32⟩
  | .hbm, ⟨3, _⟩ => ⟨S1x1024, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1x1024x2048, .f32⟩
  | .hbm, ⟨22, _⟩ => ⟨S1024x2048, .f32⟩
  | .hbm, ⟨23, _⟩ => ⟨S4x256x2048, .f32⟩
  | .hbm, ⟨24, _⟩ => ⟨S4x256x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Rotary.lean ====
abbrev S4x8192 : Shape := ⟨2, ![4, 8192]⟩
abbrev S2x1024x2816 : Shape := ⟨3, ![2, 1024, 2816]⟩
abbrev S2x2816x1024 : Shape := ⟨3, ![2, 2816, 1024]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S256x128 : Shape := ⟨2, ![256, 128]⟩
abbrev S32768x128 : Shape := ⟨2, ![32768, 128]⟩
abbrev S1024x2816 : Shape := ⟨2, ![1024, 2816]⟩
abbrev S2816x1024 : Shape := ⟨2, ![2816, 1024]⟩
abbrev S16x128 : Shape := ⟨2, ![16, 128]⟩
abbrev S1x64x2816 : Shape := ⟨3, ![1, 64, 2816]⟩
abbrev S1x176x1024 : Shape := ⟨3, ![1, 176, 1024]⟩
abbrev S2048x128 : Shape := ⟨2, ![2048, 128]⟩
abbrev S64x2816 : Shape := ⟨2, ![64, 2816]⟩
abbrev S176x1024 : Shape := ⟨2, ![176, 1024]⟩
abbrev S112x128 : Shape := ⟨2, ![112, 128]⟩
abbrev S128x128 : Shape := ⟨2, ![128, 128]⟩
abbrev S128x1 : Shape := ⟨2, ![128, 1]⟩
abbrev S512x128 : Shape := ⟨2, ![512, 128]⟩

abbrev nBuf : Space → Nat
  | .hbm => 28
  | .vmem => 19
  | .smem => 0
  | _ => 0

abbrev bufTy : (tb : Table) → Fin (tcTables nBuf tb) → BufTy
  | .hbm, ⟨0, _⟩ => ⟨S4x8192, .i32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S4x32, .f32⟩
  | .hbm, ⟨20, _⟩ => ⟨S128, .f32⟩
  | .hbm, ⟨21, _⟩ => ⟨S1x128, .f32⟩
  | .hbm, ⟨22, _⟩ => ⟨S256x128, .i32⟩
  | .hbm, ⟨23, _⟩ => ⟨S32768x128, .f32⟩
  | .hbm, ⟨24, _⟩ => ⟨S32768x128, .f32⟩
  | .hbm, ⟨25, _⟩ => ⟨S1024x2816, .bf16⟩
  | .hbm, ⟨26, _⟩ => ⟨S1024x2816, .bf16⟩
  | .hbm, ⟨27, _⟩ => ⟨S2816x1024, .bf16⟩
  | .local _ .vmem, ⟨0, _⟩ => ⟨S16x128, .i32⟩
  | .local _ .vmem, ⟨1, _⟩ => ⟨S16x128, .i32⟩
  | .local _ .vmem, ⟨2, _⟩ => ⟨S1x128, .f32⟩
  | .local _ .vmem, ⟨3, _⟩ => ⟨S1x64x2816, .f32⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x176x1024, .f32⟩
  | .local _ .vmem, ⟨8, _⟩ => ⟨S1x176x1024, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S64x2816, .bf16⟩
  | .local _ .vmem, ⟨14, _⟩ => ⟨S64x2816, .bf16⟩
  | .local _ .vmem, ⟨15, _⟩ => ⟨S64x2816, .bf16⟩
  | .local _ .vmem, ⟨16, _⟩ => ⟨S64x2816, .bf16⟩
  | .local _ .vmem, ⟨17, _⟩ => ⟨S176x1024, .bf16⟩
  | .local _ .vmem, ⟨18, _⟩ => ⟨S176x1024, .bf16⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RotaryReferenceIdeal.lean ====
abbrev S4x8192 : Shape := ⟨2, ![4, 8192]⟩
abbrev S2x1024x2816 : Shape := ⟨3, ![2, 1024, 2816]⟩
abbrev S2x2816x1024 : Shape := ⟨3, ![2, 2816, 1024]⟩
abbrev S32 : Shape := ⟨1, ![32]⟩
abbrev S_ : Shape := ⟨0, ![]⟩
abbrev S4x8192x1 : Shape := ⟨3, ![4, 8192, 1]⟩
abbrev S1x1x32 : Shape := ⟨3, ![1, 1, 32]⟩
abbrev S4x8192x32 : Shape := ⟨3, ![4, 8192, 32]⟩
abbrev S4x8192x128 : Shape := ⟨3, ![4, 8192, 128]⟩
abbrev S32768x128 : Shape := ⟨2, ![32768, 128]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S2x1024x2816, .f32⟩
  | .hbm, ⟨2, _⟩ => ⟨S2x1024x2816, .f32⟩
  | .hbm, ⟨3, _⟩ => ⟨S2x2816x1024, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4x8192, .f32⟩
  | .hbm, ⟨19, _⟩ => ⟨S4x8192x1, .f32⟩
  | .hbm, ⟨20, _⟩ => ⟨S1x1x32, .f32⟩
  | .hbm, ⟨21, _⟩ => ⟨S4x8192x32, .f32⟩
  | .hbm, ⟨22, _⟩ => ⟨S4x8192x32, .f32⟩
  | .hbm, ⟨23, _⟩ => ⟨S4x8192x32, .f32⟩
  | .hbm, ⟨24, _⟩ => ⟨S4x8192x32, .f32⟩
  | .hbm, ⟨25, _⟩ => ⟨S4x8192x32, .f32⟩
  | .hbm, ⟨26, _⟩ => ⟨S4x8192x128, .f32⟩
  | .hbm, ⟨27, _⟩ => ⟨S32768x128, .f32⟩
  | .hbm, ⟨28, _⟩ => ⟨S4x8192x32, .f32⟩
  | .hbm, ⟨29, _⟩ => ⟨S4x8192x32, .f32⟩
  | .hbm, ⟨30, _⟩ => ⟨S4x8192x128, .f32⟩
  | .hbm, ⟨31, _⟩ => ⟨S32768x128, .f32⟩
  | .hbm, ⟨32, _⟩ => ⟨S1x1024x2816, .f32⟩
  | .hbm, ⟨33, _⟩ => ⟨S1024x2816, .f32⟩
  | .hbm, ⟨34, _⟩ => ⟨S1024x2816, .bf16⟩
  | .hbm, ⟨35, _⟩ => ⟨S1x1024x2816, .f32⟩
  | .hbm, ⟨36, _⟩ => ⟨S1024x2816, .f32⟩
  | .hbm, ⟨37, _⟩ => ⟨S1024x2816, .bf16⟩
  | .hbm, ⟨38, _⟩ => ⟨S1x2816x1024, .f32⟩
  | .hbm, ⟨39, _⟩ => ⟨S2816x1024, .f32⟩
  | .hbm, ⟨40, _⟩ => ⟨S2816x1024, .bf16⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.FfnSpec.lean ====
module

public import Idealize.ShloMosaic.Lib.Pointwise

@[expose] public section

noncomputable section

/-! One row of the feed-forward layer in extended reals: what both texts compute. -/

namespace Cert.Spec

open Idealize.ShloMosaic

/-- One row divided by the root of its mean square (plus the small constant), times a gain. -/
def rms (x g : Fin 1024 → EReal) (j : Fin 1024) : EReal :=
  x j * Ideal.rsqrt (Ideal.div (∑ k : Fin 1024, x k * x k) (Ideal.ofBits .f32 0x44800000#32) + Ideal.ofBits .f32 0x358637BD#32) * g j

/-- One hidden unit of the gated layer: the gate's product through `z / (1 + exp (-z))`, times the other product. -/
def hid (a : Fin 1024 → EReal) (wg wu : Fin 1024 → EReal) : EReal :=
  Ideal.div (∑ k, a k * wg k) (1 + Ideal.exp (-(∑ k, a k * wg k))) * (∑ k, a k * wu k)

/-- One row of the feed-forward layer: the row plus half of the gated layer of its normalised row, normalised again. -/
def ffn (x g : Fin 1024 → EReal) (wg wu : Fin 1024 → Fin 2816 → EReal) (wd : Fin 2816 → Fin 1024 → EReal)
    (gf : Fin 1024 → EReal) : Fin 1024 → EReal :=
  rms (fun j => x j + Ideal.ofBits .f32 0x3F000000#32 *
    (∑ n : Fin 2816, hid (rms x g) (fun k => wg k n) (fun k => wu k n) * wd n j)) gf

/-- One row of the feed-forward layer without the last norm: the row plus half of the gated layer of its normalised row. -/
def half (x g : Fin 1024 → EReal) (wg wu : Fin 1024 → Fin 2816 → EReal) (wd : Fin 2816 → Fin 1024 → EReal) (j : Fin 1024) : EReal :=
  x j + Ideal.ofBits .f32 0x3F000000#32 * (∑ n : Fin 2816, hid (rms x g) (fun k => wg k n) (fun k => wu k n) * wd n j)

/-- Four row blocks computed apart and stacked are the rows of the whole product. -/
theorem rows4 (f : Fin 1024 → EReal) (r : Fin 1024) :
    (if h : r.val < 256 then f r else
      if h1 : r.val - 256 < 256 then f ⟨256 + (r.val - 256), by omega⟩ else
        if h2 : r.val - 256 - 256 < 256 then f ⟨512 + (r.val - 256 - 256), by omega⟩
        else f ⟨768 + (r.val - 256 - 256 - 256), by omega⟩) = f r := by
  split_ifs
  · rfl
  all_goals exact congrArg f (Fin.ext (by simp only []; omega))

/-- A sum over the hidden units is its first 1536 terms and its last 1280. -/
theorem sum_hidden (f : Fin 2816 → EReal) :
    ∑ n : Fin 2816, f n = (∑ n : Fin 1536, f ⟨n.val, by omega⟩) + ∑ n : Fin 1280, f ⟨1536 + n.val, by omega⟩ := by
  exact Fin.sum_univ_add (a := 1536) (b := 1280) f

/-- The gate `g / (1 + exp (-g))`, as a product with the quotient of one: the divisor is never zero. -/
theorem silu_eq (g : EReal) : g * Ideal.div 1 (1 + Ideal.exp (-g)) = Ideal.div g (1 + Ideal.exp (-g)) := by
  have h : (1 + Ideal.exp (-g) : EReal) ≠ 0 := by
    have h0 : (0 : EReal) ≤ Ideal.exp (-g) := by
      induction g with
      | bot => rw [EReal.neg_bot, Ideal.exp_top]; exact le_top
      | top => rw [EReal.neg_top, Ideal.exp_bot]
      | coe r => rw [← EReal.coe_neg]; simp only [Ideal.exp_coe]; exact_mod_cast (Real.exp_pos _).le
    exact (lt_of_lt_of_le (by norm_num : (0:EReal) < 1) (le_add_of_nonneg_right h0)).ne'
  simp only [Ideal.div, h, if_false, one_mul]

end Cert.Spec

end
-- ==== Proof.FfnPay.lean ====
module

public import proofs.«01_k».proof.Proof.FfnSpec
public import proofs.«01_k».proof.Proof.Gen.FfnIdeal.Value

@[expose] public section

set_option maxRecDepth 16384

noncomputable section

namespace Cert.FfnIdeal.Pay

open Cert.FfnIdeal Cert.FfnIdeal.Gen Idealize.ShloMosaic Idealize.ShloMosaic.TcCoe Cert.Spec

/-- The tile's normalized row: each row of the block over its root mean square, times the gain. -/
theorem pay2_apply (v0 : Vec Ideal S1024x1024 .f32) (v2 : Vec Ideal S1x1024 .f32) (r c : Fin 1024) :
    k0_pay2 (F := Ideal) v0 v2 (ix2 r c) = rms (fun k => v0 (ix2 r k)) (fun k => v2 (ix2 0 k)) c := by
  unfold rms
  pointwise [k0_pay2, k0_pay1]

/-- The first 1536 hidden units of a row. -/
theorem pay3_apply (v0 : Vec Ideal S1024x1024 .f32) (v2 : Vec Ideal S1x1024 .f32) (v16 v27 : Vec Ideal S1024x1536 .bf16)
    (r : Fin 1024) (c : Fin 1536) :
    k0_pay3 (F := Ideal) v0 v2 v16 v27 (ix2 r c) =
      hid (rms (fun k => v0 (ix2 r k)) (fun k => v2 (ix2 0 k))) (fun k => v16 (ix2 k c)) (fun k => v27 (ix2 k c)) := by
  unfold hid
  simp only [← pay2_apply]
  pointwise [k0_pay3]
  rw [rows4 (fun r => ∑ x, k0_pay2 (F := Ideal) v0 v2 (ix2 r x) * v16 (ix2 x c)) r, zero_sub]

/-- The stored row: the feed-forward layer of the block's row, whatever weights the loaded pieces are cut from. -/
theorem pay4_apply (v0 : Vec Ideal S1024x1024 .f32) (v2 : Vec Ideal S1x1024 .f32) (wg wu : Vec Ideal S1024x2816 .bf16)
    (wd : Vec Ideal S2816x1024 .bf16) (gf : Vec Ideal S1x1024 .f32)
    (a1 a2 : Vec Ideal S1024x1536 .bf16) (b1 b2 : Vec Ideal S1024x1280 .bf16) (d1 : Vec Ideal S1536x1024 .bf16) (d2 : Vec Ideal S1280x1024 .bf16)
    (ha1 : ∀ k n, a1 (ix2 k n) = wg (ix2 k ⟨n.val, by omega⟩)) (ha2 : ∀ k n, a2 (ix2 k n) = wu (ix2 k ⟨n.val, by omega⟩))
    (hb1 : ∀ k n, b1 (ix2 k n) = wg (ix2 k ⟨1536 + n.val, by omega⟩)) (hb2 : ∀ k n, b2 (ix2 k n) = wu (ix2 k ⟨1536 + n.val, by omega⟩))
    (hd1 : ∀ n k, d1 (ix2 n k) = wd (ix2 ⟨n.val, by omega⟩ k)) (hd2 : ∀ n k, d2 (ix2 n k) = wd (ix2 ⟨1536 + n.val, by omega⟩ k))
    (r : Fin 1024) (c : Fin 1024) :
    k0_pay4 (F := Ideal) (k0_pay1 v0) (k0_pay2 v0 v2) (k0_pay3 v0 v2 a1 a2) d1 b1 b2 d2 gf (ix2 r c) =
      ffn (fun k => v0 (ix2 r k)) (fun k => v2 (ix2 0 k)) (fun k n => wg (ix2 k n)) (fun k n => wu (ix2 k n))
        (fun n k => wd (ix2 n k)) (fun k => gf (ix2 0 k)) c := by
  have h2 : rms (fun k => v0 (ix2 r k)) (fun k => v2 (ix2 0 k)) = fun c => k0_pay2 (F := Ideal) v0 v2 (ix2 r c) :=
    funext fun c => (pay2_apply v0 v2 r c).symm
  unfold ffn
  simp only [sum_hidden]
  simp only [← ha1, ← ha2, ← hb1, ← hb2, ← hd1, ← hd2, ← pay3_apply]
  rw [h2]
  unfold rms hid
  pointwise [k0_pay4, k0_pay1]
  simp only [zero_sub]

end Cert.FfnIdeal.Pay

end
-- ==== Proof.FfnRef.lean ====
module

public import proofs.«01_k».proof.Proof.FfnSpec
public import proofs.«01_k».proof.Proof.Gen.FfnReferenceIdeal.Run
public import proofs.«01_k».proof.Proof.Gen.FfnReferenceIdeal.Read

@[expose] public section

set_option maxRecDepth 16384

noncomputable section

namespace Cert.FfnReferenceIdeal.Row

open Cert.FfnReferenceIdeal Cert.FfnReferenceIdeal.Gen Cert.FfnReferenceIdeal.Read Idealize.ShloMosaic Idealize.ShloMosaic.TcCoe Cert.Spec

/-- The normalised row. -/
theorem v14_apply (x0 : FVec Ideal S4x8192x1024 .f32) (x1 : FVec Ideal S2x1024 .f32) (b : Fin 4) (s : Fin 8192) (c : Fin 1024) :
    val_main_v14 (F := Ideal) x0 x1 (ix3 b s c) = rms (fun k => x0 (ix3 b s k)) (fun k => x1 (ix2 1 k)) c := by
  unfold rms
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- A row's hidden unit. -/
theorem v24_apply (x0 : FVec Ideal S4x8192x1024 .f32) (x1 : FVec Ideal S2x1024 .f32) (x2 x3 : FVec Ideal S2x1024x2816 .f32)
    (b : Fin 4) (s : Fin 8192) (n : Fin 2816) :
    val_main_v24 (F := Ideal) x0 x1 x2 x3 (ix3 b s n) =
      hid (rms (fun k => x0 (ix3 b s k)) (fun k => x1 (ix2 1 k))) (fun k => x2 (ix3 1 k n)) (fun k => x3 (ix3 1 k n)) := by
  have h2 : rms (fun k => x0 (ix3 b s k)) (fun k => x1 (ix2 1 k)) = fun c => val_main_v14 (F := Ideal) x0 x1 (ix3 b s c) :=
    funext fun c => (v14_apply x0 x1 b s c).symm
  rw [h2]
  unfold hid
  rw [← silu_eq]
  pointwise [val_main_v24, val_main_v23, val_main_v22, val_main_v21, val_main_v18, val_main_v17, val_main_v16, val_main_v15,
    val_main_call0_v0, val_main_call0_v1, val_main_call0_v2, val_main_call0_v3, val_main_call0_v4, val_main_call0_v5,
    val_main_call0_cst, val_main_call0_cst_0]

/-- The row before its last normalisation. -/
theorem v28_apply (x0 : FVec Ideal S4x8192x1024 .f32) (x1 : FVec Ideal S2x1024 .f32) (x2 x3 : FVec Ideal S2x1024x2816 .f32)
    (x4 : FVec Ideal S2x2816x1024 .f32) (b : Fin 4) (s : Fin 8192) (c : Fin 1024) :
    val_main_v28 (F := Ideal) x0 x1 x2 x3 x4 (ix3 b s c) = x0 (ix3 b s c) + Ideal.ofBits .f32 0x3F000000#32 *
      (∑ n : Fin 2816, hid (rms (fun k => x0 (ix3 b s k)) (fun k => x1 (ix2 1 k))) (fun k => x2 (ix3 1 k n)) (fun k => x3 (ix3 1 k n))
        * x4 (ix3 1 n c)) := by
  simp only [← v24_apply]
  pointwise [val_main_v28, val_main_v27, val_main_v26, val_main_v25, val_main_v20, val_main_v19, val_main_cst_2]

/-- The reference's result at row `i`, column `c`. -/
theorem ref_apply (x0 : FVec Ideal S4x8192x1024 .f32) (x1 : FVec Ideal S2x1024 .f32) (x2 x3 : FVec Ideal S2x1024x2816 .f32)
    (x4 : FVec Ideal S2x2816x1024 .f32) (x5 : FVec Ideal S1024 .f32) (r : Fin 32768) (c : Fin 1024) :
    val_main_v42 (F := Ideal) x0 x1 x2 x3 x4 x5 (ix2 r c) =
      ffn (fun k => x0 (ix3 ⟨r.val / 8192, by omega⟩ ⟨r.val % 8192, by omega⟩ k)) (fun k => x1 (ix2 1 k))
        (fun k n => x2 (ix3 1 k n)) (fun k n => x3 (ix3 1 k n)) (fun n k => x4 (ix3 1 n k)) (fun k => x5 (ix1 k)) c := by
  unfold ffn
  simp only [← v28_apply]
  unfold rms
  pointwise [val_main_v42, val_main_v41, val_main_v40, val_main_v39, val_main_v38, val_main_v37, val_main_v36, val_main_v35, val_main_v34, val_main_v33,
    val_main_v32, val_main_v31, val_main_v30, val_main_v29, val_main_cst_3, val_main_cst_4, val_main_cst_5]

end Cert.FfnReferenceIdeal.Row

end
-- ==== Proof.FfnValue.lean ====
module

public import proofs.«01_k».proof.Proof.FfnPay
public import proofs.«01_k».proof.Proof.FfnRef
public import Idealize.ShloMosaic.Lib.Pipeline.ValueKit
public import Idealize.ShloMosaic.Lib.Claim

@[expose] public section

set_option maxRecDepth 16384

noncomputable section

namespace Cert.FfnIdeal.Pay

open Cert.FfnIdeal Cert.FfnIdeal.Gen Idealize.ShloMosaic Idealize.ShloMosaic.TcCoe Idealize.SL.Sem Cert.Spec
open Idealize.ShloMosaic.Pipeline (Dat)

variable (m : (ℓ : Loc nD τ sig) → Buf (Elt Ideal) ℓ)

/-- The windows' block indices: the two row windows move with the point, the weights stay. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- What the body leaves at row `r` of its block. -/
theorem out_apply (x0 : Vec Ideal S1024x1024 .f32) (x1 : Vec Ideal S2x1024 .f32) (x2 x3 : Vec Ideal S1024x2816 .bf16)
    (x4 : Vec Ideal S2816x1024 .bf16) (x5 : Vec Ideal S1x1024 .f32) (r c : Fin 1024) :
    out0_6 (F := Ideal) x0 x1 x2 x3 x4 x5 (ix2 r c) =
      ffn (fun k => x0 (ix2 r k)) (fun k => x1 (ix2 1 k)) (fun k n => x2 (ix2 k n)) (fun k n => x3 (ix2 k n))
        (fun n k => x4 (ix2 n k)) (fun k => x5 (ix2 0 k)) c := by
  unfold out0_6
  rw [View.canon_unit_zero (by funext a; fin_cases a <;> rfl)]
  rw [pay4_apply (wg := x2) (wu := x3) (wd := x4)]
  · pointwise []
  · intro k n; pointwise []
  · intro k n; pointwise []
  · intro k n; pointwise []
  · intro k n; pointwise []
  · intro n k; pointwise []
  · intro n k; pointwise []

/-- The result array: the feed-forward layer of every row of the argument. -/
def G (x0 : FVec Ideal S4x8192x1024 .f32) (x1 : FVec Ideal S2x1024 .f32) (x2 x3 : FVec Ideal S2x1024x2816 .f32)
    (x4 : FVec Ideal S2x2816x1024 .f32) (x5 : FVec Ideal S1024 .f32) : FVec Ideal S32768x1024 .f32 := fun i =>
  ffn (fun k => x0 (ix3 ⟨(i 0).val / 8192, by have := (i 0).isLt; show _ < 4; change (i 0).val < 32768 at this; omega⟩ ⟨(i 0).val % 8192, by show _ < 8192; omega⟩ k)) (fun k => x1 (ix2 1 k))
        (fun k n => x2 (ix3 1 k n)) (fun k n => x3 (ix3 1 k n)) (fun n k => x4 (ix3 1 n k)) (fun k => x5 (ix1 k)) (i 1)

/-- What a point leaves in its block is the result at the block's place in the array. -/
theorem point (c : Dev nD) (t : Fin cfg0.N) (y : S1024x1024.Idx) :
    out0_6 (F := Ideal) (iblk m c 0 t) (iblk m c 1 t) (iblk m c 2 t) (iblk m c 3 t) (iblk m c 4 t) (iblk m c 5 t) y
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb y) := by
  obtain ⟨r, k, rfl⟩ : ∃ (r : Fin 1024) (k : Fin 1024), y = ix2 r k := ⟨y 0, y 1, eq_ix2 y⟩
  refine (out_apply (iblk m c 0 t) (iblk m c 1 t) (iblk m c 2 t) (iblk m c 3 t) (iblk m c 4 t) (iblk m c 5 t) r k).trans ?_
  have e : G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb (ix2 r k))
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (ix2 ⟨t.val * 1024 + r.val, by have := t.isLt; change t.val < 32 at this; omega⟩ k) := by
    blk_ext [idx t]
  rw [e]
  unfold G
  congr 1
  · funext k; blk_point [iblk, V, idx t]
  · funext k; blk_point [iblk, V, idx t]
  · funext k n; blk_point [iblk, V, idx t]
  · funext k n; blk_point [iblk, V, idx t]
  · funext n k; blk_point [iblk, V, idx t]
  · funext k; blk_point [iblk, V, idx t]

/-- The result array after the run. -/
theorem final (c : Dev nD) : (dats m 0 c).arrAt 6 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  exact point m c t y

end Cert.FfnIdeal.Pay

end
-- ==== Proof.FfnClaims.lean ====
module

public import proofs.«01_k».proof.Defs
public import proofs.«01_k».proof.Proof.FfnValue
public import proofs.«01_k».proof.Proof.Gen.Ffn.Frame
public import Idealize.ShloMosaic.Lib.Quiescent

@[expose] public section

noncomputable section

namespace Cert.Proof.FfnClaims

open Idealize.ShloMosaic Idealize.ShloMosaic.TcCoe Idealize.SL.Sem

/-- The reference's result term is the kernel's result array, of the same arguments. -/
theorem ref_eq (x0 : FVec Ideal Cert.FfnIdeal.S4x8192x1024 .f32) (x1 : FVec Ideal Cert.FfnIdeal.S2x1024 .f32)
    (x2 x3 : FVec Ideal Cert.FfnIdeal.S2x1024x2816 .f32) (x4 : FVec Ideal Cert.FfnIdeal.S2x2816x1024 .f32)
    (x5 : FVec Ideal Cert.FfnIdeal.S1024 .f32) :
    Cert.FfnReferenceIdeal.Read.val_main_v42 (F := Ideal) x0 x1 x2 x3 x4 x5 = Cert.FfnIdeal.Pay.G x0 x1 x2 x3 x4 x5 := by
  funext i
  obtain ⟨r, k, rfl⟩ : ∃ (r : Fin 32768) (k : Fin 1024), i = ix2 r k := ⟨i 0, i 1, eq_ix2 i⟩
  exact Cert.FfnReferenceIdeal.Row.ref_apply x0 x1 x2 x3 x4 x5 r k

/-- The kernel ends, its arguments unchanged. -/
theorem frame_p : Cert.quiescent_Ffn := fun m ρ _ => Cert.Ffn.Gen.frame m ρ
/-- The idealized kernel ends, its arguments unchanged. -/
theorem frame_pi : Cert.quiescent_FfnIdeal := fun m ρ _ => Cert.FfnIdeal.Gen.frame m ρ
/-- The reference ends, its arguments unchanged. -/
theorem frame_ri : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)
/-- The idealization rewrote nothing. -/
theorem preserves : Cert.preserves_Ffn_FfnIdeal := trivial

/-- The feed-forward call's idealization and the reference end with one array: every row's layer value. -/
theorem algebraic : Cert.algebraic_FfnIdeal_FfnReferenceIdeal := by
  intro m ρ m' ρ' _ hagree
  refine ⟨fun c => Cert.FfnIdeal.Pay.G (m ((c.tc : Thread Cert.FfnIdeal.nD Cert.FfnIdeal.τ).loc Cert.FfnIdeal.main_arg0))
      (m ((c.tc : Thread Cert.FfnIdeal.nD Cert.FfnIdeal.τ).loc Cert.FfnIdeal.main_arg1))
      (m ((c.tc : Thread Cert.FfnIdeal.nD Cert.FfnIdeal.τ).loc Cert.FfnIdeal.main_arg2))
      (m ((c.tc : Thread Cert.FfnIdeal.nD Cert.FfnIdeal.τ).loc Cert.FfnIdeal.main_arg3))
      (m ((c.tc : Thread Cert.FfnIdeal.nD Cert.FfnIdeal.τ).loc Cert.FfnIdeal.main_arg4))
      (m ((c.tc : Thread Cert.FfnIdeal.nD Cert.FfnIdeal.τ).loc Cert.FfnIdeal.main_arg5)), ?_, ?_⟩
  · exact (θ_run Cert.FfnIdeal.defs _ _).mono (fun _ h c => ⟨(h c).1.trans (Cert.FfnIdeal.Pay.final m c), (h c).2⟩)
      (Cert.FfnIdeal.Value.run_blocks (F := Ideal) m ρ)
  · refine (θ_run Cert.FfnReferenceIdeal.defs _ _).mono (fun _ h c => ⟨(h c).1.trans ?_, (h c).2⟩)
      (Cert.FfnReferenceIdeal.Value.run (F := Ideal) m' ρ')
    obtain ⟨e0, e1, e2, e3, e4, e5⟩ := hagree c
    rw [Cert.FfnReferenceIdeal.Read.val_main_v42_eq, e0, e1, e2, e3, e4, e5]
    exact ref_eq _ _ _ _ _ _

end Cert.Proof.FfnClaims

end
-- ==== Proof.FfnFirstPay.lean ====
module

public import proofs.«01_k».proof.Proof.FfnSpec
public import proofs.«01_k».proof.Proof.Gen.FfnFirstIdeal.Value

@[expose] public section

set_option maxRecDepth 16384

noncomputable section

namespace Cert.FfnFirstIdeal.Pay

open Cert.FfnFirstIdeal Cert.FfnFirstIdeal.Gen Idealize.ShloMosaic Idealize.ShloMosaic.TcCoe Cert.Spec

/-- The tile's normalized row: each row of the block over its root mean square, times the gain. -/
theorem pay3_apply (v0 : Vec Ideal S1024x1024 .f32) (v2 : Vec Ideal S1x1024 .f32) (r c : Fin 1024) :
    k0_pay3 (F := Ideal) v0 v2 (ix2 r c) = rms (fun k => v0 (ix2 r k)) (fun k => v2 (ix2 0 k)) c := by
  unfold rms
  pointwise [k0_pay3, k0_pay2]

/-- The first 1536 hidden units of a row. -/
theorem pay4_apply (v0 : Vec Ideal S1024x1024 .f32) (v2 : Vec Ideal S1x1024 .f32) (v16 v27 : Vec Ideal S1024x1536 .bf16)
    (r : Fin 1024) (c : Fin 1536) :
    k0_pay4 (F := Ideal) v0 v2 v16 v27 (ix2 r c) =
      hid (rms (fun k => v0 (ix2 r k)) (fun k => v2 (ix2 0 k))) (fun k => v16 (ix2 k c)) (fun k => v27 (ix2 k c)) := by
  unfold hid
  simp only [← pay3_apply]
  pointwise [k0_pay4]
  rw [rows4 (fun r => ∑ x, k0_pay3 (F := Ideal) v0 v2 (ix2 r x) * v16 (ix2 x c)) r, zero_sub]

/-- The stored row: the feed-forward layer, without the last norm, of the block's row, whatever weights the loaded pieces are cut from. -/
theorem pay5_apply (v0 : Vec Ideal S1024x1024 .f32) (v2 : Vec Ideal S1x1024 .f32) (wg wu : Vec Ideal S1024x2816 .bf16)
    (wd : Vec Ideal S2816x1024 .bf16)
    (a1 a2 : Vec Ideal S1024x1536 .bf16) (b1 b2 : Vec Ideal S1024x1280 .bf16) (d1 : Vec Ideal S1536x1024 .bf16) (d2 : Vec Ideal S1280x1024 .bf16)
    (ha1 : ∀ k n, a1 (ix2 k n) = wg (ix2 k ⟨n.val, by omega⟩)) (ha2 : ∀ k n, a2 (ix2 k n) = wu (ix2 k ⟨n.val, by omega⟩))
    (hb1 : ∀ k n, b1 (ix2 k n) = wg (ix2 k ⟨1536 + n.val, by omega⟩)) (hb2 : ∀ k n, b2 (ix2 k n) = wu (ix2 k ⟨1536 + n.val, by omega⟩))
    (hd1 : ∀ n k, d1 (ix2 n k) = wd (ix2 ⟨n.val, by omega⟩ k)) (hd2 : ∀ n k, d2 (ix2 n k) = wd (ix2 ⟨1536 + n.val, by omega⟩ k))
    (r : Fin 1024) (c : Fin 1024) :
    k0_pay5 (F := Ideal) (k0_pay2 v0) (k0_pay3 v0 v2) (k0_pay4 v0 v2 a1 a2) d1 b1 b2 d2 (ix2 r c) =
      half (fun k => v0 (ix2 r k)) (fun k => v2 (ix2 0 k)) (fun k n => wg (ix2 k n)) (fun k n => wu (ix2 k n))
        (fun n k => wd (ix2 n k)) c := by
  have h2 : rms (fun k => v0 (ix2 r k)) (fun k => v2 (ix2 0 k)) = fun c => k0_pay3 (F := Ideal) v0 v2 (ix2 r c) :=
    funext fun c => (pay3_apply v0 v2 r c).symm
  unfold half
  simp only [sum_hidden]
  simp only [← ha1, ← ha2, ← hb1, ← hb2, ← hd1, ← hd2, ← pay4_apply]
  rw [h2]
  unfold hid
  pointwise [k0_pay5, k0_pay2]
  simp only [zero_sub]

end Cert.FfnFirstIdeal.Pay

end
-- ==== Proof.FfnFirstRef.lean ====
module

public import proofs.«01_k».proof.Proof.FfnSpec
public import proofs.«01_k».proof.Proof.Gen.FfnFirstReferenceIdeal.Run
public import proofs.«01_k».proof.Proof.Gen.FfnFirstReferenceIdeal.Read

@[expose] public section

set_option maxRecDepth 16384

noncomputable section

namespace Cert.FfnFirstReferenceIdeal.Row

open Cert.FfnFirstReferenceIdeal Cert.FfnFirstReferenceIdeal.Gen Cert.FfnFirstReferenceIdeal.Read Idealize.ShloMosaic Idealize.ShloMosaic.TcCoe Cert.Spec

/-- The normalised row. -/
theorem v14_apply (x0 : FVec Ideal S4x8192x1024 .f32) (x1 : FVec Ideal S2x1024 .f32) (b : Fin 4) (s : Fin 8192) (c : Fin 1024) :
    val_main_v14 (F := Ideal) x0 x1 (ix3 b s c) = rms (fun k => x0 (ix3 b s k)) (fun k => x1 (ix2 0 k)) c := by
  unfold rms
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- A row's hidden unit. -/
theorem v24_apply (x0 : FVec Ideal S4x8192x1024 .f32) (x1 : FVec Ideal S2x1024 .f32) (x2 x3 : FVec Ideal S2x1024x2816 .f32)
    (b : Fin 4) (s : Fin 8192) (n : Fin 2816) :
    val_main_v24 (F := Ideal) x0 x1 x2 x3 (ix3 b s n) =
      hid (rms (fun k => x0 (ix3 b s k)) (fun k => x1 (ix2 0 k))) (fun k => x2 (ix3 0 k n)) (fun k => x3 (ix3 0 k n)) := by
  have h2 : rms (fun k => x0 (ix3 b s k)) (fun k => x1 (ix2 0 k)) = fun c => val_main_v14 (F := Ideal) x0 x1 (ix3 b s c) :=
    funext fun c => (v14_apply x0 x1 b s c).symm
  rw [h2]
  unfold hid
  rw [← silu_eq]
  pointwise [val_main_v24, val_main_v23, val_main_v22, val_main_v21, val_main_v18, val_main_v17, val_main_v16, val_main_v15,
    val_main_call0_v0, val_main_call0_v1, val_main_call0_v2, val_main_call0_v3, val_main_call0_v4, val_main_call0_v5,
    val_main_call0_cst, val_main_call0_cst_0]

/-- The row before its last normalisation. -/
theorem v28_apply (x0 : FVec Ideal S4x8192x1024 .f32) (x1 : FVec Ideal S2x1024 .f32) (x2 x3 : FVec Ideal S2x1024x2816 .f32)
    (x4 : FVec Ideal S2x2816x1024 .f32) (b : Fin 4) (s : Fin 8192) (c : Fin 1024) :
    val_main_v28 (F := Ideal) x0 x1 x2 x3 x4 (ix3 b s c) = x0 (ix3 b s c) + Ideal.ofBits .f32 0x3F000000#32 *
      (∑ n : Fin 2816, hid (rms (fun k => x0 (ix3 b s k)) (fun k => x1 (ix2 0 k))) (fun k => x2 (ix3 0 k n)) (fun k => x3 (ix3 0 k n))
        * x4 (ix3 0 n c)) := by
  simp only [← v24_apply]
  pointwise [val_main_v28, val_main_v27, val_main_v26, val_main_v25, val_main_v20, val_main_v19, val_main_cst_2]

/-- The reference's first result at row `r`, column `c`. -/
theorem ref_apply (x0 : FVec Ideal S4x8192x1024 .f32) (x1 : FVec Ideal S2x1024 .f32) (x2 x3 : FVec Ideal S2x1024x2816 .f32)
    (x4 : FVec Ideal S2x2816x1024 .f32) (r : Fin 32768) (c : Fin 1024) :
    val_main_v48 (F := Ideal) x0 x1 x2 x3 x4 (ix2 r c) =
      half (fun k => x0 (ix3 ⟨r.val / 8192, by omega⟩ ⟨r.val % 8192, by omega⟩ k)) (fun k => x1 (ix2 0 k))
        (fun k n => x2 (ix3 0 k n)) (fun k n => x3 (ix3 0 k n)) (fun n k => x4 (ix3 0 n k)) c := by
  unfold half
  simp only [← v28_apply]
  pointwise [val_main_v48]

/-- Result 1: a layer's weight as it is. -/
theorem ref1_apply (x : FVec Ideal S2x1024x1280 .f32) (r : Fin 1024) (c : Fin 1280) :
    val_main_v49 (F := Ideal) x (ix2 r c) = x (ix3 0 r c) := by
  pointwise [val_main_v49, val_main_v30, val_main_v29]

/-- Result 2: a layer's weight as it is. -/
theorem ref2_apply (x : FVec Ideal S2x4x128x128 .f32) (r : Fin 512) (c : Fin 128) :
    val_main_v50 (F := Ideal) x (ix2 r c) = x (ix4 0 ⟨r.val / 128, by omega⟩ ⟨r.val % 128, by omega⟩ c) := by
  pointwise [val_main_v50, val_main_v33, val_main_v32, val_main_v31]

/-- Result 3: a layer's weight as it is. -/
theorem ref3_apply (x : FVec Ideal S2x1024x1024 .f32) (r : Fin 1024) (c : Fin 1024) :
    val_main_v51 (F := Ideal) x (ix2 r c) = x (ix3 0 r c) := by
  pointwise [val_main_v51, val_main_v35, val_main_v34]

/-- Result 4: a layer's weight as it is. -/
theorem ref4_apply (x : FVec Ideal S2x1024x1024 .f32) (r : Fin 1024) (c : Fin 1024) :
    val_main_v52 (F := Ideal) x (ix2 r c) = x (ix3 0 r c) := by
  pointwise [val_main_v52, val_main_v37, val_main_v36]

/-- Result 5: a layer's weight as it is. -/
theorem ref5_apply (x : FVec Ideal S2x1024x2048 .f32) (r : Fin 1024) (c : Fin 2048) :
    val_main_v53 (F := Ideal) x (ix2 r c) = x (ix3 0 r c) := by
  pointwise [val_main_v53, val_main_v39, val_main_v38]

/-- Result 6: a layer's weight as it is. -/
theorem ref6_apply (x : FVec Ideal S2x1024x1024 .f32) (r : Fin 1024) (c : Fin 1024) :
    val_main_v54 (F := Ideal) x (ix2 r c) = x (ix3 0 r c) := by
  pointwise [val_main_v54, val_main_v41, val_main_v40]

/-- Result 7: a layer's weight as it is. -/
theorem ref7_apply (x : FVec Ideal S2x1024x2816 .f32) (r : Fin 1024) (c : Fin 2816) :
    val_main_v55 (F := Ideal) x (ix2 r c) = x (ix3 0 r c) := by
  pointwise [val_main_v55, val_main_v43, val_main_v42]

/-- Result 8: a layer's weight as it is. -/
theorem ref8_apply (x : FVec Ideal S2x1024x2816 .f32) (r : Fin 1024) (c : Fin 2816) :
    val_main_v56 (F := Ideal) x (ix2 r c) = x (ix3 0 r c) := by
  pointwise [val_main_v56, val_main_v45, val_main_v44]

/-- Result 9: a layer's weight as it is. -/
theorem ref9_apply (x : FVec Ideal S2x2816x1024 .f32) (r : Fin 2816) (c : Fin 1024) :
    val_main_v57 (F := Ideal) x (ix2 r c) = x (ix3 0 r c) := by
  pointwise [val_main_v57, val_main_v47, val_main_v46]

end Cert.FfnFirstReferenceIdeal.Row

end
-- ==== Proof.FfnFirstValue.lean ====
module

public import proofs.«01_k».proof.Proof.FfnFirstPay
public import proofs.«01_k».proof.Proof.FfnFirstRef
public import Idealize.ShloMosaic.Lib.Pipeline.ValueKit
public import Idealize.ShloMosaic.Lib.Claim

@[expose] public section

set_option maxRecDepth 16384

noncomputable section

namespace Cert.FfnFirstIdeal.Pay

open Cert.FfnFirstIdeal Cert.FfnFirstIdeal.Gen Idealize.ShloMosaic Idealize.ShloMosaic.TcCoe Idealize.SL.Sem Cert.Spec
open Idealize.ShloMosaic.Pipeline (Dat)

variable (m : (ℓ : Loc nD τ sig) → Buf (Elt Ideal) ℓ)

/-- The windows' block indices: the row windows move with the point, the layer's weights stay, the cast weights move by row blocks. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, t.val, 0]
    ∧ win0_7.index t = ![0, t.val, 0]
    ∧ win0_8.index t = ![0, t.val, 0]
    ∧ win0_9.index t = ![0, t.val, 0]
    ∧ win0_10.index t = ![0, t.val, 0]
    ∧ win0_11.index t = ![0, t.val, 0]
    ∧ win0_12.index t = ![0, t.val, 0]
    ∧ win0_13.index t = ![0, t.val, 0]
    ∧ win0_14.index t = ![0, min t.val 21, 0]
    ∧ win0_15.index t = ![t.val, 0]
    ∧ win0_16.index t = ![t.val, 0]
    ∧ win0_17.index t = ![t.val, 0]
    ∧ win0_18.index t = ![t.val, 0]
    ∧ win0_19.index t = ![t.val, 0]
    ∧ win0_20.index t = ![t.val, 0]
    ∧ win0_21.index t = ![t.val, 0]
    ∧ win0_22.index t = ![t.val, 0]
    ∧ win0_23.index t = ![t.val, 0]
    ∧ win0_24.index t = ![min t.val 21, 0] :=
  (by decide +kernel : ∀ t : Fin grid0.N, _)

/-- The pooling weights as the call receives them: the argument, its groups' rows stacked. -/
theorem pool_in (c : Dev nD) : V m c (Pipeline.arrRef spec0 7)
    = shapeCast S2x512x128 (m ((c : Thread nD τ).loc main_arg6)) shapeCasts_S2x4x128x128_S2x512x128 := by
  rfl

/-- The stacked rows, one by one. -/
theorem pool_row (x : FVec Ideal S2x4x128x128 .f32) (r : Fin 512) (k : Fin 128) :
    shapeCast S2x512x128 x shapeCasts_S2x4x128x128_S2x512x128 (ix3 0 r k) = x (ix4 0 ⟨r.val / 128, by omega⟩ ⟨r.val % 128, by omega⟩ k) := by
  pointwise []

/-- The body loads the whole block. -/
theorem pool_ld (z : Vec Ideal S1x16x128 .f32) (r : Fin 16) (k : Fin 128) : View.ld z r0_8 (ix3 0 r k) = z (ix3 0 r k) := by
  pointwise []

/-- The block at a point, in any array. -/
theorem pool_blk (t : Fin cfg0.N) (A : FVec Ideal S2x512x128 .f32) (r : Fin 16) (k : Fin 128) :
    View.ld (((cfg0.win 7).blk t).view.read (Elt Ideal) A) r0_8 (ix3 0 r k) = A (ix3 0 ⟨t.val * 16 + r.val, by have := t.isLt; change t.val < 32 at this; omega⟩ k) := by
  refine (pool_ld _ r k).trans ?_
  show A (((cfg0.win 7).blk t).view.emb _) = _
  congr 1
  blk_ext [idx t]

/-- The pooling weights' block at a point. -/
theorem pool_use (c : Dev nD) (t : Fin cfg0.N) (r : Fin 16) (k : Fin 128) :
   View.ld (iblk m c 7 t) r0_8 (ix3 0 r k) = m (c.tc.loc main_arg6) (ix4 0 ⟨(t.val * 16 + r.val) / 128, by have := t.isLt; change t.val < 32 at this; omega⟩ ⟨(t.val * 16 + r.val) % 128, by omega⟩ k) :=
  (pool_blk t (V m c (Pipeline.arrRef spec0 7)) r k).trans ((congrFun (pool_in m c) _).trans (pool_row _ _ k))

/-- What the body leaves at row `r` of its block. -/
theorem out_apply (x0 : Vec Ideal S1024x1024 .f32) (x1 : Vec Ideal S2x1024 .f32) (x2 x3 : Vec Ideal S1024x2816 .bf16) (x4 : Vec Ideal S2816x1024 .bf16) (x5 : Vec Ideal S1x1024 .f32) (x6 : Vec Ideal S1x32x1280 .f32) (x7 : Vec Ideal S1x16x128 .f32) (x8 : Vec Ideal S1x32x1024 .f32) (x9 : Vec Ideal S1x32x1024 .f32) (x10 : Vec Ideal S1x32x2048 .f32) (x11 : Vec Ideal S1x32x1024 .f32) (x12 : Vec Ideal S1x32x2816 .f32) (x13 : Vec Ideal S1x32x2816 .f32) (x14 : Vec Ideal S1x128x1024 .f32) (r c : Fin 1024) :
    out0_15 (F := Ideal) x0 x1 x2 x3 x4 x5 x6 x7 x8 x9 x10 x11 x12 x13 x14 (ix2 r c) =
      half (fun k => x0 (ix2 r k)) (fun k => x1 (ix2 0 k)) (fun k n => x2 (ix2 k n)) (fun k n => x3 (ix2 k n))
        (fun n k => x4 (ix2 n k)) c := by
  unfold out0_15
  rw [View.canon_unit_zero (by funext a; fin_cases a <;> rfl)]
  rw [pay5_apply (wg := x2) (wu := x3) (wd := x4)]
  · pointwise []
  · intro k n; pointwise []
  · intro k n; pointwise []
  · intro k n; pointwise []
  · intro k n; pointwise []
  · intro n k; pointwise []
  · intro n k; pointwise []

/-- The result array: the feed-forward layer of every row of the argument. -/
def G (x0 : FVec Ideal S4x8192x1024 .f32) (x1 : FVec Ideal S2x1024 .f32) (x2 x3 : FVec Ideal S2x1024x2816 .f32)
    (x4 : FVec Ideal S2x2816x1024 .f32) : FVec Ideal S32768x1024 .f32 := fun i =>
  half (fun k => x0 (ix3 ⟨(i 0).val / 8192, by have := (i 0).isLt; show _ < 4; change (i 0).val < 32768 at this; omega⟩ ⟨(i 0).val % 8192, by show _ < 8192; omega⟩ k)) (fun k => x1 (ix2 0 k))
        (fun k n => x2 (ix3 0 k n)) (fun k n => x3 (ix3 0 k n)) (fun n k => x4 (ix3 0 n k)) (i 1)

/-- What a point leaves in its block is the result at the block's place in the array. -/
theorem point (c : Dev nD) (t : Fin cfg0.N) (y : S1024x1024.Idx) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
      = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 15).blk t).view.emb y) := by
  obtain ⟨r, k, rfl⟩ : ∃ (r : Fin 1024) (k : Fin 1024), y = ix2 r k := ⟨y 0, y 1, eq_ix2 y⟩
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r k).trans ?_
  have e : G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 15).blk t).view.emb (ix2 r k))
      = G (m ((c : Thread nD τ).loc main_arg0)) (m ((c : Thread nD τ).loc main_arg1)) (m ((c : Thread nD τ).loc main_arg2)) (m ((c : Thread nD τ).loc main_arg3)) (m ((c : Thread nD τ).loc main_arg4))
        (ix2 ⟨t.val * 1024 + r.val, by have := t.isLt; change t.val < 32 at this; omega⟩ k) := by
    blk_ext [idx t]
  rw [e]
  unfold G
  congr 1
  · funext k; blk_point [iblk, V, idx t]
  · funext k; blk_point [iblk, V, idx t]
  · funext k n; blk_point [iblk, V, idx t]
  · funext k n; blk_point [iblk, V, idx t]
  · funext n k; blk_point [iblk, V, idx t]

/-- The first result array after the run. -/
theorem final (c : Dev nD) : (dats m 0 c).arrAt 15 (cfgs 0).N = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 15 _ (by decide +kernel) fun t _ y => ?_
  blk_simp
  rw [after0_15]
  exact point m c t y

/-- Result 1: a layer's weight as it is. -/
def G1 (x : FVec Ideal S2x1024x1280 .f32) : FVec Ideal S1024x1280 .bf16 := fun i => x (ix3 0 (i 0) (i 1))

/-- What a point leaves in result 1's block is the weight's block. -/
theorem point1 (c : Dev nD) (t : Fin cfg0.N) (y : S32x1280.Idx) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = G1 (m ((c : Thread nD τ).loc main_arg5)) (((cfg0.win 16).blk t).view.emb y) := by
  obtain ⟨r, k, rfl⟩ : ∃ (r : Fin 32) (k : Fin 1280), y = ix2 r k := ⟨y 0, y 1, eq_ix2 y⟩
  have a : ∀ (z : Vec Ideal S1x32x1280 .f32), k0_pay6 (F := Ideal) z (ix2 r k) = z (ix3 0 r k) := fun z => by pointwise [k0_pay6]
  have e : G1 (m ((c : Thread nD τ).loc main_arg5)) (((cfg0.win 16).blk t).view.emb (ix2 r k)) = G1 (m ((c : Thread nD τ).loc main_arg5)) (ix2 ⟨t.val * 32 + r.val, by have := t.isLt; change t.val < 32 at this; omega⟩ k) := by
    blk_ext [idx t]
  rw [e]
  unfold out0_16
  rw [View.canon_unit_zero (by funext a; fin_cases a <;> rfl), a]
  unfold G1
  blk_point [iblk, V, idx t]

/-- Result 1 after the run. -/
theorem final1 (c : Dev nD) : (dats m 0 c).arrAt 16 (cfgs 0).N = G1 (m ((c : Thread nD τ).loc main_arg5)) := by
  refine (dats m 0 c).arrAt_eq_of_covers 16 _ (by decide +kernel) fun t _ y => ?_
  blk_simp
  rw [after0_16]
  exact point1 m c t y

/-- Result 2: a layer's weight as it is. -/
def G2 (x : FVec Ideal S2x4x128x128 .f32) : FVec Ideal S512x128 .bf16 := fun i => x (ix4 0 ⟨(i 0).val / 128, by have := (i 0).isLt; show _ < 4; change (i 0).val < 512 at this; omega⟩ ⟨(i 0).val % 128, by show _ < 128; omega⟩ (i 1))

/-- What a point leaves in result 2's block is the weight's block. -/
theorem point2 (c : Dev nD) (t : Fin cfg0.N) (y : S16x128.Idx) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = G2 (m ((c : Thread nD τ).loc main_arg6)) (((cfg0.win 17).blk t).view.emb y) := by
  obtain ⟨r, k, rfl⟩ : ∃ (r : Fin 16) (k : Fin 128), y = ix2 r k := ⟨y 0, y 1, eq_ix2 y⟩
  have a : ∀ (z : Vec Ideal S1x16x128 .f32), k0_pay7 (F := Ideal) z (ix2 r k) = z (ix3 0 r k) := fun z => by pointwise [k0_pay7]
  have e : G2 (m ((c : Thread nD τ).loc main_arg6)) (((cfg0.win 17).blk t).view.emb (ix2 r k)) = G2 (m ((c : Thread nD τ).loc main_arg6)) (ix2 ⟨t.val * 16 + r.val, by have := t.isLt; change t.val < 32 at this; omega⟩ k) := by
    blk_ext [idx t]
  rw [e]
  unfold out0_17
  rw [View.canon_unit_zero (by funext a; fin_cases a <;> rfl), a]
  unfold G2
  exact pool_use m c t r k

/-- Result 2 after the run. -/
theorem final2 (c : Dev nD) : (dats m 0 c).arrAt 17 (cfgs 0).N = G2 (m ((c : Thread nD τ).loc main_arg6)) := by
  refine (dats m 0 c).arrAt_eq_of_covers 17 _ (by decide +kernel) fun t _ y => ?_
  blk_simp
  rw [after0_17]
  exact point2 m c t y

/-- Result 3: a layer's weight as it is. -/
def G3 (x : FVec Ideal S2x1024x1024 .f32) : FVec Ideal S1024x1024 .bf16 := fun i => x (ix3 0 (i 0) (i 1))

/-- What a point leaves in result 3's block is the weight's block. -/
theorem point3 (c : Dev nD) (t : Fin cfg0.N) (y : S32x1024.Idx) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = G3 (m ((c : Thread nD τ).loc main_arg7)) (((cfg0.win 18).blk t).view.emb y) := by
  obtain ⟨r, k, rfl⟩ : ∃ (r : Fin 32) (k : Fin 1024), y = ix2 r k := ⟨y 0, y 1, eq_ix2 y⟩
  have a : ∀ (z : Vec Ideal S1x32x1024 .f32), k0_pay8 (F := Ideal) z (ix2 r k) = z (ix3 0 r k) := fun z => by pointwise [k0_pay8]
  have e : G3 (m ((c : Thread nD τ).loc main_arg7)) (((cfg0.win 18).blk t).view.emb (ix2 r k)) = G3 (m ((c : Thread nD τ).loc main_arg7)) (ix2 ⟨t.val * 32 + r.val, by have := t.isLt; change t.val < 32 at this; omega⟩ k) := by
    blk_ext [idx t]
  rw [e]
  unfold out0_18
  rw [View.canon_unit_zero (by funext a; fin_cases a <;> rfl), a]
  unfold G3
  blk_point [iblk, V, idx t]

/-- Result 3 after the run. -/
theorem final3 (c : Dev nD) : (dats m 0 c).arrAt 18 (cfgs 0).N = G3 (m ((c : Thread nD τ).loc main_arg7)) := by
  refine (dats m 0 c).arrAt_eq_of_covers 18 _ (by decide +kernel) fun t _ y => ?_
  blk_simp
  rw [after0_18]
  exact point3 m c t y

/-- Result 4: a layer's weight as it is. -/
def G4 (x : FVec Ideal S2x1024x1024 .f32) : FVec Ideal S1024x1024 .bf16 := fun i => x (ix3 0 (i 0) (i 1))

/-- What a point leaves in result 4's block is the weight's block. -/
theorem point4 (c : Dev nD) (t : Fin cfg0.N) (y : S32x1024.Idx) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = G4 (m ((c : Thread nD τ).loc main_arg8)) (((cfg0.win 19).blk t).view.emb y) := by
  obtain ⟨r, k, rfl⟩ : ∃ (r : Fin 32) (k : Fin 1024), y = ix2 r k := ⟨y 0, y 1, eq_ix2 y⟩
  have a : ∀ (z : Vec Ideal S1x32x1024 .f32), k0_pay9 (F := Ideal) z (ix2 r k) = z (ix3 0 r k) := fun z => by pointwise [k0_pay9]
  have e : G4 (m ((c : Thread nD τ).loc main_arg8)) (((cfg0.win 19).blk t).view.emb (ix2 r k)) = G4 (m ((c : Thread nD τ).loc main_arg8)) (ix2 ⟨t.val * 32 + r.val, by have := t.isLt; change t.val < 32 at this; omega⟩ k) := by
    blk_ext [idx t]
  rw [e]
  unfold out0_19
  rw [View.canon_unit_zero (by funext a; fin_cases a <;> rfl), a]
  unfold G4
  blk_point [iblk, V, idx t]

/-- Result 4 after the run. -/
theorem final4 (c : Dev nD) : (dats m 0 c).arrAt 19 (cfgs 0).N = G4 (m ((c : Thread nD τ).loc main_arg8)) := by
  refine (dats m 0 c).arrAt_eq_of_covers 19 _ (by decide +kernel) fun t _ y => ?_
  blk_simp
  rw [after0_19]
  exact point4 m c t y

/-- Result 5: a layer's weight as it is. -/
def G5 (x : FVec Ideal S2x1024x2048 .f32) : FVec Ideal S1024x2048 .bf16 := fun i => x (ix3 0 (i 0) (i 1))

/-- What a point leaves in result 5's block is the weight's block. -/
theorem point5 (c : Dev nD) (t : Fin cfg0.N) (y : S32x2048.Idx) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = G5 (m ((c : Thread nD τ).loc main_arg9)) (((cfg0.win 20).blk t).view.emb y) := by
  obtain ⟨r, k, rfl⟩ : ∃ (r : Fin 32) (k : Fin 2048), y = ix2 r k := ⟨y 0, y 1, eq_ix2 y⟩
  have a : ∀ (z : Vec Ideal S1x32x2048 .f32), k0_pay10 (F := Ideal) z (ix2 r k) = z (ix3 0 r k) := fun z => by pointwise [k0_pay10]
  have e : G5 (m ((c : Thread nD τ).loc main_arg9)) (((cfg0.win 20).blk t).view.emb (ix2 r k)) = G5 (m ((c : Thread nD τ).loc main_arg9)) (ix2 ⟨t.val * 32 + r.val, by have := t.isLt; change t.val < 32 at this; omega⟩ k) := by
    blk_ext [idx t]
  rw [e]
  unfold out0_20
  rw [View.canon_unit_zero (by funext a; fin_cases a <;> rfl), a]
  unfold G5
  blk_point [iblk, V, idx t]

/-- Result 5 after the run. -/
theorem final5 (c : Dev nD) : (dats m 0 c).arrAt 20 (cfgs 0).N = G5 (m ((c : Thread nD τ).loc main_arg9)) := by
  refine (dats m 0 c).arrAt_eq_of_covers 20 _ (by decide +kernel) fun t _ y => ?_
  blk_simp
  rw [after0_20]
  exact point5 m c t y

/-- Result 6: a layer's weight as it is. -/
def G6 (x : FVec Ideal S2x1024x1024 .f32) : FVec Ideal S1024x1024 .bf16 := fun i => x (ix3 0 (i 0) (i 1))

/-- What a point leaves in result 6's block is the weight's block. -/
theorem point6 (c : Dev nD) (t : Fin cfg0.N) (y : S32x1024.Idx) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = G6 (m ((c : Thread nD τ).loc main_arg10)) (((cfg0.win 21).blk t).view.emb y) := by
  obtain ⟨r, k, rfl⟩ : ∃ (r : Fin 32) (k : Fin 1024), y = ix2 r k := ⟨y 0, y 1, eq_ix2 y⟩
  have a : ∀ (z : Vec Ideal S1x32x1024 .f32), k0_pay11 (F := Ideal) z (ix2 r k) = z (ix3 0 r k) := fun z => by pointwise [k0_pay11]
  have e : G6 (m ((c : Thread nD τ).loc main_arg10)) (((cfg0.win 21).blk t).view.emb (ix2 r k)) = G6 (m ((c : Thread nD τ).loc main_arg10)) (ix2 ⟨t.val * 32 + r.val, by have := t.isLt; change t.val < 32 at this; omega⟩ k) := by
    blk_ext [idx t]
  rw [e]
  unfold out0_21
  rw [View.canon_unit_zero (by funext a; fin_cases a <;> rfl), a]
  unfold G6
  blk_point [iblk, V, idx t]

/-- Result 6 after the run. -/
theorem final6 (c : Dev nD) : (dats m 0 c).arrAt 21 (cfgs 0).N = G6 (m ((c : Thread nD τ).loc main_arg10)) := by
  refine (dats m 0 c).arrAt_eq_of_covers 21 _ (by decide +kernel) fun t _ y => ?_
  blk_simp
  rw [after0_21]
  exact point6 m c t y

/-- Result 7: a layer's weight as it is. -/
def G7 (x : FVec Ideal S2x1024x2816 .f32) : FVec Ideal S1024x2816 .bf16 := fun i => x (ix3 0 (i 0) (i 1))

/-- What a point leaves in result 7's block is the weight's block. -/
theorem point7 (c : Dev nD) (t : Fin cfg0.N) (y : S32x2816.Idx) :
    out0_22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = G7 (m ((c : Thread nD τ).loc main_arg11)) (((cfg0.win 22).blk t).view.emb y) := by
  obtain ⟨r, k, rfl⟩ : ∃ (r : Fin 32) (k : Fin 2816), y = ix2 r k := ⟨y 0, y 1, eq_ix2 y⟩
  have a : ∀ (z : Vec Ideal S1x32x2816 .f32), k0_pay12 (F := Ideal) z (ix2 r k) = z (ix3 0 r k) := fun z => by pointwise [k0_pay12]
  have e : G7 (m ((c : Thread nD τ).loc main_arg11)) (((cfg0.win 22).blk t).view.emb (ix2 r k)) = G7 (m ((c : Thread nD τ).loc main_arg11)) (ix2 ⟨t.val * 32 + r.val, by have := t.isLt; change t.val < 32 at this; omega⟩ k) := by
    blk_ext [idx t]
  rw [e]
  unfold out0_22
  rw [View.canon_unit_zero (by funext a; fin_cases a <;> rfl), a]
  unfold G7
  blk_point [iblk, V, idx t]

/-- Result 7 after the run. -/
theorem final7 (c : Dev nD) : (dats m 0 c).arrAt 22 (cfgs 0).N = G7 (m ((c : Thread nD τ).loc main_arg11)) := by
  refine (dats m 0 c).arrAt_eq_of_covers 22 _ (by decide +kernel) fun t _ y => ?_
  blk_simp
  rw [after0_22]
  exact point7 m c t y

/-- Result 8: a layer's weight as it is. -/
def G8 (x : FVec Ideal S2x1024x2816 .f32) : FVec Ideal S1024x2816 .bf16 := fun i => x (ix3 0 (i 0) (i 1))

/-- What a point leaves in result 8's block is the weight's block. -/
theorem point8 (c : Dev nD) (t : Fin cfg0.N) (y : S32x2816.Idx) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = G8 (m ((c : Thread nD τ).loc main_arg12)) (((cfg0.win 23).blk t).view.emb y) := by
  obtain ⟨r, k, rfl⟩ : ∃ (r : Fin 32) (k : Fin 2816), y = ix2 r k := ⟨y 0, y 1, eq_ix2 y⟩
  have a : ∀ (z : Vec Ideal S1x32x2816 .f32), k0_pay13 (F := Ideal) z (ix2 r k) = z (ix3 0 r k) := fun z => by pointwise [k0_pay13]
  have e : G8 (m ((c : Thread nD τ).loc main_arg12)) (((cfg0.win 23).blk t).view.emb (ix2 r k)) = G8 (m ((c : Thread nD τ).loc main_arg12)) (ix2 ⟨t.val * 32 + r.val, by have := t.isLt; change t.val < 32 at this; omega⟩ k) := by
    blk_ext [idx t]
  rw [e]
  unfold out0_23
  rw [View.canon_unit_zero (by funext a; fin_cases a <;> rfl), a]
  unfold G8
  blk_point [iblk, V, idx t]

/-- Result 8 after the run. -/
theorem final8 (c : Dev nD) : (dats m 0 c).arrAt 23 (cfgs 0).N = G8 (m ((c : Thread nD τ).loc main_arg12)) := by
  refine (dats m 0 c).arrAt_eq_of_covers 23 _ (by decide +kernel) fun t _ y => ?_
  blk_simp
  rw [after0_23]
  exact point8 m c t y

/-- Result 9: a layer's weight as it is. -/
def G9 (x : FVec Ideal S2x2816x1024 .f32) : FVec Ideal S2816x1024 .bf16 := fun i => x (ix3 0 (i 0) (i 1))

/-- What a point leaves in result 9's block is the weight's block. -/
theorem point9 (c : Dev nD) (t : Fin cfg0.N) (y : S128x1024.Idx) :
    out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = G9 (m ((c : Thread nD τ).loc main_arg13)) (((cfg0.win 24).blk t).view.emb y) := by
  obtain ⟨r, k, rfl⟩ : ∃ (r : Fin 128) (k : Fin 1024), y = ix2 r k := ⟨y 0, y 1, eq_ix2 y⟩
  have a : ∀ (z : Vec Ideal S1x128x1024 .f32), k0_pay1 (F := Ideal) z (ix2 r k) = z (ix3 0 r k) := fun z => by pointwise [k0_pay1]
  have e : G9 (m ((c : Thread nD τ).loc main_arg13)) (((cfg0.win 24).blk t).view.emb (ix2 r k)) = G9 (m ((c : Thread nD τ).loc main_arg13)) (ix2 ⟨min t.val 21 * 128 + r.val, by omega⟩ k) := by
    blk_ext [idx t]
  rw [e]
  unfold out0_24
  rw [View.canon_unit_zero (by funext a; fin_cases a <;> rfl), a]
  unfold G9
  blk_point [iblk, V, idx t]

/-- Result 9 after the run. -/
theorem final9 (c : Dev nD) : (dats m 0 c).arrAt 24 (cfgs 0).N = G9 (m ((c : Thread nD τ).loc main_arg13)) := by
  refine (dats m 0 c).arrAt_eq_of_covers 24 _ (by decide +kernel) fun t _ y => ?_
  blk_simp
  rw [after0_24]
  exact point9 m c t y

end Cert.FfnFirstIdeal.Pay

end
-- ==== Proof.FfnFirstClaims.lean ====
module

public import proofs.«01_k».proof.Defs
public import proofs.«01_k».proof.Proof.FfnFirstValue
public import proofs.«01_k».proof.Proof.Gen.FfnFirst.Frame
public import Idealize.ShloMosaic.Lib.Quiescent

@[expose] public section

noncomputable section

namespace Cert.Proof.FfnFirstClaims

open Idealize.ShloMosaic Idealize.ShloMosaic.TcCoe Idealize.SL.Sem

/-- The reference's first result is the kernel's first result array, of the same arguments. -/
theorem ref_eq (x0 : FVec Ideal Cert.FfnFirstIdeal.S4x8192x1024 .f32) (x1 : FVec Ideal Cert.FfnFirstIdeal.S2x1024 .f32)
    (x2 x3 : FVec Ideal Cert.FfnFirstIdeal.S2x1024x2816 .f32) (x4 : FVec Ideal Cert.FfnFirstIdeal.S2x2816x1024 .f32) :
    Cert.FfnFirstReferenceIdeal.Read.val_main_v48 (F := Ideal) x0 x1 x2 x3 x4 = Cert.FfnFirstIdeal.Pay.G x0 x1 x2 x3 x4 := by
  funext i
  obtain ⟨r, k, rfl⟩ : ∃ (r : Fin 32768) (k : Fin 1024), i = ix2 r k := ⟨i 0, i 1, eq_ix2 i⟩
  exact Cert.FfnFirstReferenceIdeal.Row.ref_apply x0 x1 x2 x3 x4 r k

/-- Result 1, both sides. -/
theorem ref_eq1 (x : FVec Ideal Cert.FfnFirstIdeal.S2x1024x1280 .f32) : Cert.FfnFirstReferenceIdeal.Read.val_main_v49 (F := Ideal) x = Cert.FfnFirstIdeal.Pay.G1 x := by
  funext i
  obtain ⟨r, k, rfl⟩ : ∃ (r : Fin 1024) (k : Fin 1280), i = ix2 r k := ⟨i 0, i 1, eq_ix2 i⟩
  exact Cert.FfnFirstReferenceIdeal.Row.ref1_apply x r k

/-- Result 2, both sides. -/
theorem ref_eq2 (x : FVec Ideal Cert.FfnFirstIdeal.S2x4x128x128 .f32) : Cert.FfnFirstReferenceIdeal.Read.val_main_v50 (F := Ideal) x = Cert.FfnFirstIdeal.Pay.G2 x := by
  funext i
  obtain ⟨r, k, rfl⟩ : ∃ (r : Fin 512) (k : Fin 128), i = ix2 r k := ⟨i 0, i 1, eq_ix2 i⟩
  exact Cert.FfnFirstReferenceIdeal.Row.ref2_apply x r k

/-- Result 3, both sides. -/
theorem ref_eq3 (x : FVec Ideal Cert.FfnFirstIdeal.S2x1024x1024 .f32) : Cert.FfnFirstReferenceIdeal.Read.val_main_v51 (F := Ideal) x = Cert.FfnFirstIdeal.Pay.G3 x := by
  funext i
  obtain ⟨r, k, rfl⟩ : ∃ (r : Fin 1024) (k : Fin 1024), i = ix2 r k := ⟨i 0, i 1, eq_ix2 i⟩
  exact Cert.FfnFirstReferenceIdeal.Row.ref3_apply x r k

/-- Result 4, both sides. -/
theorem ref_eq4 (x : FVec Ideal Cert.FfnFirstIdeal.S2x1024x1024 .f32) : Cert.FfnFirstReferenceIdeal.Read.val_main_v52 (F := Ideal) x = Cert.FfnFirstIdeal.Pay.G4 x := by
  funext i
  obtain ⟨r, k, rfl⟩ : ∃ (r : Fin 1024) (k : Fin 1024), i = ix2 r k := ⟨i 0, i 1, eq_ix2 i⟩
  exact Cert.FfnFirstReferenceIdeal.Row.ref4_apply x r k

/-- Result 5, both sides. -/
theorem ref_eq5 (x : FVec Ideal Cert.FfnFirstIdeal.S2x1024x2048 .f32) : Cert.FfnFirstReferenceIdeal.Read.val_main_v53 (F := Ideal) x = Cert.FfnFirstIdeal.Pay.G5 x := by
  funext i
  obtain ⟨r, k, rfl⟩ : ∃ (r : Fin 1024) (k : Fin 2048), i = ix2 r k := ⟨i 0, i 1, eq_ix2 i⟩
  exact Cert.FfnFirstReferenceIdeal.Row.ref5_apply x r k

/-- Result 6, both sides. -/
theorem ref_eq6 (x : FVec Ideal Cert.FfnFirstIdeal.S2x1024x1024 .f32) : Cert.FfnFirstReferenceIdeal.Read.val_main_v54 (F := Ideal) x = Cert.FfnFirstIdeal.Pay.G6 x := by
  funext i
  obtain ⟨r, k, rfl⟩ : ∃ (r : Fin 1024) (k : Fin 1024), i = ix2 r k := ⟨i 0, i 1, eq_ix2 i⟩
  exact Cert.FfnFirstReferenceIdeal.Row.ref6_apply x r k

/-- Result 7, both sides. -/
theorem ref_eq7 (x : FVec Ideal Cert.FfnFirstIdeal.S2x1024x2816 .f32) : Cert.FfnFirstReferenceIdeal.Read.val_main_v55 (F := Ideal) x = Cert.FfnFirstIdeal.Pay.G7 x := by
  funext i
  obtain ⟨r, k, rfl⟩ : ∃ (r : Fin 1024) (k : Fin 2816), i = ix2 r k := ⟨i 0, i 1, eq_ix2 i⟩
  exact Cert.FfnFirstReferenceIdeal.Row.ref7_apply x r k

/-- Result 8, both sides. -/
theorem ref_eq8 (x : FVec Ideal Cert.FfnFirstIdeal.S2x1024x2816 .f32) : Cert.FfnFirstReferenceIdeal.Read.val_main_v56 (F := Ideal) x = Cert.FfnFirstIdeal.Pay.G8 x := by
  funext i
  obtain ⟨r, k, rfl⟩ : ∃ (r : Fin 1024) (k : Fin 2816), i = ix2 r k := ⟨i 0, i 1, eq_ix2 i⟩
  exact Cert.FfnFirstReferenceIdeal.Row.ref8_apply x r k

/-- Result 9, both sides. -/
theorem ref_eq9 (x : FVec Ideal Cert.FfnFirstIdeal.S2x2816x1024 .f32) : Cert.FfnFirstReferenceIdeal.Read.val_main_v57 (F := Ideal) x = Cert.FfnFirstIdeal.Pay.G9 x := by
  funext i
  obtain ⟨r, k, rfl⟩ : ∃ (r : Fin 2816) (k : Fin 1024), i = ix2 r k := ⟨i 0, i 1, eq_ix2 i⟩
  exact Cert.FfnFirstReferenceIdeal.Row.ref9_apply x r k

/-- The kernel ends, its arguments unchanged. -/
theorem frame_p : Cert.quiescent_FfnFirst := fun m ρ _ => Cert.FfnFirst.Gen.frame m ρ

/-- The idealized kernel ends, its arguments unchanged. -/
theorem frame_pi : Cert.quiescent_FfnFirstIdeal := fun m ρ _ => Cert.FfnFirstIdeal.Gen.frame m ρ

/-- The reference ends, its arguments unchanged. -/
theorem frame_ri : Cert.quiescent_FfnFirstReferenceIdeal := fun m ρ _ =>
  (θ_run Cert.FfnFirstReferenceIdeal.defs _ _).mono (fun r h => ⟨fun c => (h c).2.2.2.2.2.2.2.2.2.2,
      Idealize.ShloMosaic.sem_eq_zero_of_no_sems (by decide) r.2⟩)
    (Cert.FfnFirstReferenceIdeal.Value.run (F := Ideal) m ρ)

/-- The idealization rewrote nothing. -/
theorem preserves : Cert.preserves_FfnFirst_FfnFirstIdeal := trivial

/-- The call's idealization and the reference end with the same arrays: every row's layer value, and the weights. -/
theorem algebraic : Cert.algebraic_FfnFirstIdeal_FfnFirstReferenceIdeal := by
  intro m ρ m' ρ' _ hagree
  refine ⟨fun c => Cert.FfnFirstIdeal.Pay.G (m ((c.tc : Thread Cert.FfnFirstIdeal.nD Cert.FfnFirstIdeal.τ).loc Cert.FfnFirstIdeal.main_arg0)) (m ((c.tc : Thread Cert.FfnFirstIdeal.nD Cert.FfnFirstIdeal.τ).loc Cert.FfnFirstIdeal.main_arg1)) (m ((c.tc : Thread Cert.FfnFirstIdeal.nD Cert.FfnFirstIdeal.τ).loc Cert.FfnFirstIdeal.main_arg2)) (m ((c.tc : Thread Cert.FfnFirstIdeal.nD Cert.FfnFirstIdeal.τ).loc Cert.FfnFirstIdeal.main_arg3)) (m ((c.tc : Thread Cert.FfnFirstIdeal.nD Cert.FfnFirstIdeal.τ).loc Cert.FfnFirstIdeal.main_arg4)),
    fun c => Cert.FfnFirstIdeal.Pay.G1 (m ((c.tc : Thread Cert.FfnFirstIdeal.nD Cert.FfnFirstIdeal.τ).loc Cert.FfnFirstIdeal.main_arg5)),
    fun c => Cert.FfnFirstIdeal.Pay.G2 (m ((c.tc : Thread Cert.FfnFirstIdeal.nD Cert.FfnFirstIdeal.τ).loc Cert.FfnFirstIdeal.main_arg6)),
    fun c => Cert.FfnFirstIdeal.Pay.G3 (m ((c.tc : Thread Cert.FfnFirstIdeal.nD Cert.FfnFirstIdeal.τ).loc Cert.FfnFirstIdeal.main_arg7)),
    fun c => Cert.FfnFirstIdeal.Pay.G4 (m ((c.tc : Thread Cert.FfnFirstIdeal.nD Cert.FfnFirstIdeal.τ).loc Cert.FfnFirstIdeal.main_arg8)),
    fun c => Cert.FfnFirstIdeal.Pay.G5 (m ((c.tc : Thread Cert.FfnFirstIdeal.nD Cert.FfnFirstIdeal.τ).loc Cert.FfnFirstIdeal.main_arg9)),
    fun c => Cert.FfnFirstIdeal.Pay.G6 (m ((c.tc : Thread Cert.FfnFirstIdeal.nD Cert.FfnFirstIdeal.τ).loc Cert.FfnFirstIdeal.main_arg10)),
    fun c => Cert.FfnFirstIdeal.Pay.G7 (m ((c.tc : Thread Cert.FfnFirstIdeal.nD Cert.FfnFirstIdeal.τ).loc Cert.FfnFirstIdeal.main_arg11)),
    fun c => Cert.FfnFirstIdeal.Pay.G8 (m ((c.tc : Thread Cert.FfnFirstIdeal.nD Cert.FfnFirstIdeal.τ).loc Cert.FfnFirstIdeal.main_arg12)),
    fun c => Cert.FfnFirstIdeal.Pay.G9 (m ((c.tc : Thread Cert.FfnFirstIdeal.nD Cert.FfnFirstIdeal.τ).loc Cert.FfnFirstIdeal.main_arg13)),
    ?_, ?_⟩
  · refine (θ_run Cert.FfnFirstIdeal.defs _ _).mono (fun _ h c => ?_) (Cert.FfnFirstIdeal.Value.run_blocks (F := Ideal) m ρ)
    obtain ⟨h0, h1, h2, h3, h4, h5, h6, h7, h8, h9, ha⟩ := h c
    exact ⟨h0.trans (Cert.FfnFirstIdeal.Pay.final m c), h1.trans (Cert.FfnFirstIdeal.Pay.final1 m c), h2.trans (Cert.FfnFirstIdeal.Pay.final2 m c), h3.trans (Cert.FfnFirstIdeal.Pay.final3 m c), h4.trans (Cert.FfnFirstIdeal.Pay.final4 m c), h5.trans (Cert.FfnFirstIdeal.Pay.final5 m c), h6.trans (Cert.FfnFirstIdeal.Pay.final6 m c), h7.trans (Cert.FfnFirstIdeal.Pay.final7 m c), h8.trans (Cert.FfnFirstIdeal.Pay.final8 m c), h9.trans (Cert.FfnFirstIdeal.Pay.final9 m c), ha⟩
  · refine (θ_run Cert.FfnFirstReferenceIdeal.defs _ _).mono (fun _ h c => ?_) (Cert.FfnFirstReferenceIdeal.Value.run (F := Ideal) m' ρ')
    obtain ⟨h0, h1, h2, h3, h4, h5, h6, h7, h8, h9, ha⟩ := h c
    obtain ⟨e0, e1, e2, e3, e4, e5, e6, e7, e8, e9, e10, e11, e12, e13, e14⟩ := hagree c
    refine ⟨h0.trans ?_, h1.trans ?_, h2.trans ?_, h3.trans ?_, h4.trans ?_, h5.trans ?_, h6.trans ?_, h7.trans ?_, h8.trans ?_, h9.trans ?_, ha⟩
    · rw [Cert.FfnFirstReferenceIdeal.Read.val_main_v48_eq, e0, e1, e2, e3, e4]
      exact ref_eq _ _ _ _ _
    · rw [Cert.FfnFirstReferenceIdeal.Read.val_main_v49_eq, e5]
      exact ref_eq1 _
    · rw [Cert.FfnFirstReferenceIdeal.Read.val_main_v50_eq, e6]
      exact ref_eq2 _
    · rw [Cert.FfnFirstReferenceIdeal.Read.val_main_v51_eq, e7]
      exact ref_eq3 _
    · rw [Cert.FfnFirstReferenceIdeal.Read.val_main_v52_eq, e8]
      exact ref_eq4 _
    · rw [Cert.FfnFirstReferenceIdeal.Read.val_main_v53_eq, e9]
      exact ref_eq5 _
    · rw [Cert.FfnFirstReferenceIdeal.Read.val_main_v54_eq, e10]
      exact ref_eq6 _
    · rw [Cert.FfnFirstReferenceIdeal.Read.val_main_v55_eq, e11]
      exact ref_eq7 _
    · rw [Cert.FfnFirstReferenceIdeal.Read.val_main_v56_eq, e12]
      exact ref_eq8 _
    · rw [Cert.FfnFirstReferenceIdeal.Read.val_main_v57_eq, e13]
      exact ref_eq9 _

end Cert.Proof.FfnFirstClaims

end
-- ==== Proof.FfnSecondPay.lean ====
module

public import proofs.«01_k».proof.Proof.FfnSpec
public import proofs.«01_k».proof.Proof.Gen.FfnSecondIdeal.Value

@[expose] public section

set_option maxRecDepth 16384

noncomputable section

namespace Cert.FfnSecondIdeal.Pay

open Cert.FfnSecondIdeal Cert.FfnSecondIdeal.Gen Idealize.ShloMosaic Idealize.ShloMosaic.TcCoe Cert.Spec

/-- The tile's normalized row: each row of the block over its root mean square, times the gain. -/
theorem pay3_apply (v0 : Vec Ideal S1024x1024 .f32) (v2 : Vec Ideal S1x1024 .f32) (r c : Fin 1024) :
    k0_pay3 (F := Ideal) v0 v2 (ix2 r c) = rms (fun k => v0 (ix2 r k)) (fun k => v2 (ix2 0 k)) c := by
  unfold rms
  pointwise [k0_pay3, k0_pay2]

/-- The first 1536 hidden units of a row. -/
theorem pay4_apply (v0 : Vec Ideal S1024x1024 .f32) (v2 : Vec Ideal S1x1024 .f32) (v16 v27 : Vec Ideal S1024x1536 .bf16)
    (r : Fin 1024) (c : Fin 1536) :
    k0_pay4 (F := Ideal) v0 v2 v16 v27 (ix2 r c) =
      hid (rms (fun k => v0 (ix2 r k)) (fun k => v2 (ix2 0 k))) (fun k => v16 (ix2 k c)) (fun k => v27 (ix2 k c)) := by
  unfold hid
  simp only [← pay3_apply]
  pointwise [k0_pay4]
  rw [rows4 (fun r => ∑ x, k0_pay3 (F := Ideal) v0 v2 (ix2 r x) * v16 (ix2 x c)) r, zero_sub]

/-- The stored row: the feed-forward layer, without the last norm, of the block's row, whatever weights the loaded pieces are cut from. -/
theorem pay5_apply (v0 : Vec Ideal S1024x1024 .f32) (v2 : Vec Ideal S1x1024 .f32) (wg wu : Vec Ideal S1024x2816 .bf16)
    (wd : Vec Ideal S2816x1024 .bf16)
    (a1 a2 : Vec Ideal S1024x1536 .bf16) (b1 b2 : Vec Ideal S1024x1280 .bf16) (d1 : Vec Ideal S1536x1024 .bf16) (d2 : Vec Ideal S1280x1024 .bf16)
    (ha1 : ∀ k n, a1 (ix2 k n) = wg (ix2 k ⟨n.val, by omega⟩)) (ha2 : ∀ k n, a2 (ix2 k n) = wu (ix2 k ⟨n.val, by omega⟩))
    (hb1 : ∀ k n, b1 (ix2 k n) = wg (ix2 k ⟨1536 + n.val, by omega⟩)) (hb2 : ∀ k n, b2 (ix2 k n) = wu (ix2 k ⟨1536 + n.val, by omega⟩))
    (hd1 : ∀ n k, d1 (ix2 n k) = wd (ix2 ⟨n.val, by omega⟩ k)) (hd2 : ∀ n k, d2 (ix2 n k) = wd (ix2 ⟨1536 + n.val, by omega⟩ k))
    (r : Fin 1024) (c : Fin 1024) :
    k0_pay5 (F := Ideal) (k0_pay2 v0) (k0_pay3 v0 v2) (k0_pay4 v0 v2 a1 a2) d1 b1 b2 d2 (ix2 r c) =
      half (fun k => v0 (ix2 r k)) (fun k => v2 (ix2 0 k)) (fun k n => wg (ix2 k n)) (fun k n => wu (ix2 k n))
        (fun n k => wd (ix2 n k)) c := by
  have h2 : rms (fun k => v0 (ix2 r k)) (fun k => v2 (ix2 0 k)) = fun c => k0_pay3 (F := Ideal) v0 v2 (ix2 r c) :=
    funext fun c => (pay3_apply v0 v2 r c).symm
  unfold half
  simp only [sum_hidden]
  simp only [← ha1, ← ha2, ← hb1, ← hb2, ← hd1, ← hd2, ← pay4_apply]
  rw [h2]
  unfold hid
  pointwise [k0_pay5, k0_pay2]
  simp only [zero_sub]

end Cert.FfnSecondIdeal.Pay

end
-- ==== Proof.FfnSecondRef.lean ====
module

public import proofs.«01_k».proof.Proof.FfnSpec
public import proofs.«01_k».proof.Proof.Gen.FfnSecondReferenceIdeal.Run
public import proofs.«01_k».proof.Proof.Gen.FfnSecondReferenceIdeal.Read

@[expose] public section

set_option maxRecDepth 16384

noncomputable section

namespace Cert.FfnSecondReferenceIdeal.Row

open Cert.FfnSecondReferenceIdeal Cert.FfnSecondReferenceIdeal.Gen Cert.FfnSecondReferenceIdeal.Read Idealize.ShloMosaic Idealize.ShloMosaic.TcCoe Cert.Spec

/-- The normalised row. -/
theorem v14_apply (x0 : FVec Ideal S4x8192x1024 .f32) (x1 : FVec Ideal S2x1024 .f32) (b : Fin 4) (s : Fin 8192) (c : Fin 1024) :
    val_main_v14 (F := Ideal) x0 x1 (ix3 b s c) = rms (fun k => x0 (ix3 b s k)) (fun k => x1 (ix2 0 k)) c := by
  unfold rms
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- A row's hidden unit. -/
theorem v24_apply (x0 : FVec Ideal S4x8192x1024 .f32) (x1 : FVec Ideal S2x1024 .f32) (x2 x3 : FVec Ideal S2x1024x2816 .f32)
    (b : Fin 4) (s : Fin 8192) (n : Fin 2816) :
    val_main_v24 (F := Ideal) x0 x1 x2 x3 (ix3 b s n) =
      hid (rms (fun k => x0 (ix3 b s k)) (fun k => x1 (ix2 0 k))) (fun k => x2 (ix3 0 k n)) (fun k => x3 (ix3 0 k n)) := by
  have h2 : rms (fun k => x0 (ix3 b s k)) (fun k => x1 (ix2 0 k)) = fun c => val_main_v14 (F := Ideal) x0 x1 (ix3 b s c) :=
    funext fun c => (v14_apply x0 x1 b s c).symm
  rw [h2]
  unfold hid
  rw [← silu_eq]
  pointwise [val_main_v24, val_main_v23, val_main_v22, val_main_v21, val_main_v18, val_main_v17, val_main_v16, val_main_v15,
    val_main_call0_v0, val_main_call0_v1, val_main_call0_v2, val_main_call0_v3, val_main_call0_v4, val_main_call0_v5,
    val_main_call0_cst, val_main_call0_cst_0]

/-- The row before its last normalisation. -/
theorem v28_apply (x0 : FVec Ideal S4x8192x1024 .f32) (x1 : FVec Ideal S2x1024 .f32) (x2 x3 : FVec Ideal S2x1024x2816 .f32)
    (x4 : FVec Ideal S2x2816x1024 .f32) (b : Fin 4) (s : Fin 8192) (c : Fin 1024) :
    val_main_v28 (F := Ideal) x0 x1 x2 x3 x4 (ix3 b s c) = x0 (ix3 b s c) + Ideal.ofBits .f32 0x3F000000#32 *
      (∑ n : Fin 2816, hid (rms (fun k => x0 (ix3 b s k)) (fun k => x1 (ix2 0 k))) (fun k => x2 (ix3 0 k n)) (fun k => x3 (ix3 0 k n))
        * x4 (ix3 0 n c)) := by
  simp only [← v24_apply]
  pointwise [val_main_v28, val_main_v27, val_main_v26, val_main_v25, val_main_v20, val_main_v19, val_main_cst_2]

/-- The reference's first result at row `r`, column `c`. -/
theorem ref_apply (x0 : FVec Ideal S4x8192x1024 .f32) (x1 : FVec Ideal S2x1024 .f32) (x2 x3 : FVec Ideal S2x1024x2816 .f32)
    (x4 : FVec Ideal S2x2816x1024 .f32) (r : Fin 32768) (c : Fin 1024) :
    val_main_v29 (F := Ideal) x0 x1 x2 x3 x4 (ix2 r c) =
      half (fun k => x0 (ix3 ⟨r.val / 8192, by omega⟩ ⟨r.val % 8192, by omega⟩ k)) (fun k => x1 (ix2 0 k))
        (fun k n => x2 (ix3 0 k n)) (fun k n => x3 (ix3 0 k n)) (fun n k => x4 (ix3 0 n k)) c := by
  unfold half
  simp only [← v28_apply]
  pointwise [val_main_v29]

/-- Result 1: a layer's weight as it is. -/
theorem ref1_apply (x : FVec Ideal S2x1024x2816 .f32) (r : Fin 1024) (c : Fin 2816) :
    val_main_v32 (F := Ideal) x (ix2 r c) = x (ix3 1 r c) := by
  pointwise [val_main_v32, val_main_v31, val_main_v30]

/-- Result 2: a layer's weight as it is. -/
theorem ref2_apply (x : FVec Ideal S2x1024x2816 .f32) (r : Fin 1024) (c : Fin 2816) :
    val_main_v35 (F := Ideal) x (ix2 r c) = x (ix3 1 r c) := by
  pointwise [val_main_v35, val_main_v34, val_main_v33]

/-- Result 3: a layer's weight as it is. -/
theorem ref3_apply (x : FVec Ideal S2x2816x1024 .f32) (r : Fin 2816) (c : Fin 1024) :
    val_main_v38 (F := Ideal) x (ix2 r c) = x (ix3 1 r c) := by
  pointwise [val_main_v38, val_main_v37, val_main_v36]

end Cert.FfnSecondReferenceIdeal.Row

end
-- ==== Proof.FfnSecondValue.lean ====
module

public import proofs.«01_k».proof.Proof.FfnSecondPay
public import proofs.«01_k».proof.Proof.FfnSecondRef
public import Idealize.ShloMosaic.Lib.Pipeline.ValueKit
public import Idealize.ShloMosaic.Lib.Claim

@[expose] public section

set_option maxRecDepth 16384

noncomputable section

namespace Cert.FfnSecondIdeal.Pay

open Cert.FfnSecondIdeal Cert.FfnSecondIdeal.Gen Idealize.ShloMosaic Idealize.ShloMosaic.TcCoe Idealize.SL.Sem Cert.Spec
open Idealize.ShloMosaic.Pipeline (Dat)

variable (m : (ℓ : Loc nD τ sig) → Buf (Elt Ideal) ℓ)

/-- The windows' block indices: the row windows move with the point, the layer's weights stay, the cast weights move by row blocks. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![1, t.val, 0]
    ∧ win0_7.index t = ![1, t.val, 0]
    ∧ win0_8.index t = ![1, min t.val 21, 0]
    ∧ win0_9.index t = ![t.val, 0]
    ∧ win0_10.index t = ![t.val, 0]
    ∧ win0_11.index t = ![t.val, 0]
    ∧ win0_12.index t = ![min t.val 21, 0] :=
  (by decide +kernel : ∀ t : Fin grid0.N, _)

/-- What the body leaves at row `r` of its block. -/
theorem out_apply (x0 : Vec Ideal S1024x1024 .f32) (x1 : Vec Ideal S2x1024 .f32) (x2 x3 : Vec Ideal S1024x2816 .bf16) (x4 : Vec Ideal S2816x1024 .bf16) (x5 : Vec Ideal S1x1024 .f32) (x6 : Vec Ideal S1x32x2816 .f32) (x7 : Vec Ideal S1x32x2816 .f32) (x8 : Vec Ideal S1x128x1024 .f32) (r c : Fin 1024) :
    out0_9 (F := Ideal) x0 x1 x2 x3 x4 x5 x6 x7 x8 (ix2 r c) =
      half (fun k => x0 (ix2 r k)) (fun k => x1 (ix2 0 k)) (fun k n => x2 (ix2 k n)) (fun k n => x3 (ix2 k n))
        (fun n k => x4 (ix2 n k)) c := by
  unfold out0_9
  rw [View.canon_unit_zero (by funext a; fin_cases a <;> rfl)]
  rw [pay5_apply (wg := x2) (wu := x3) (wd := x4)]
  · pointwise []
  · intro k n; pointwise []
  · intro k n; pointwise []
  · intro k n; pointwise []
  · intro k n; pointwise []
  · intro n k; pointwise []
  · intro n k; pointwise []

/-- The result array: the feed-forward layer of every row of the argument. -/
def G (x0 : FVec Ideal S4x8192x1024 .f32) (x1 : FVec Ideal S2x1024 .f32) (x2 x3 : FVec Ideal S2x1024x2816 .f32)
    (x4 : FVec Ideal S2x2816x1024 .f32) : FVec Ideal S32768x1024 .f32 := fun i =>
  half (fun k => x0 (ix3 ⟨(i 0).val / 8192, by have := (i 0).isLt; show _ < 4; change (i 0).val < 32768 at this; omega⟩ ⟨(i 0).val % 8192, by show _ < 8192; omega⟩ k)) (fun k => x1 (ix2 0 k))
        (fun k n => x2 (ix3 0 k n)) (fun k n => x3 (ix3 0 k n)) (fun n k => x4 (ix3 0 n k)) (i 1)

/-- What a point leaves in its block is the result at the block's place in the array. -/
theorem point (c : Dev nD) (t : Fin cfg0.N) (y : S1024x1024.Idx) :
    out0_9 (F := Ideal) (iblk m c 0 t) (iblk m c 1 t) (iblk m c 2 t) (iblk m c 3 t) (iblk m c 4 t) (iblk m c 5 t) (iblk m c 6 t) (iblk m c 7 t) (iblk m c 8 t) y
      = G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb y) := by
  obtain ⟨r, k, rfl⟩ : ∃ (r : Fin 1024) (k : Fin 1024), y = ix2 r k := ⟨y 0, y 1, eq_ix2 y⟩
  refine (out_apply (iblk m c 0 t) (iblk m c 1 t) (iblk m c 2 t) (iblk m c 3 t) (iblk m c 4 t) (iblk m c 5 t) (iblk m c 6 t) (iblk m c 7 t) (iblk m c 8 t) r k).trans ?_
  have e : G (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb (ix2 r k))
      = G (m ((c : Thread nD τ).loc main_arg0)) (m ((c : Thread nD τ).loc main_arg1)) (m ((c : Thread nD τ).loc main_arg2)) (m ((c : Thread nD τ).loc main_arg3)) (m ((c : Thread nD τ).loc main_arg4))
        (ix2 ⟨t.val * 1024 + r.val, by have := t.isLt; change t.val < 32 at this; omega⟩ k) := by
    blk_ext [idx t]
  rw [e]
  unfold G
  congr 1
  · funext k; blk_point [iblk, V, idx t]
  · funext k; blk_point [iblk, V, idx t]
  · funext k n; blk_point [iblk, V, idx t]
  · funext k n; blk_point [iblk, V, idx t]
  · funext n k; blk_point [iblk, V, idx t]

/-- The first result array after the run. -/
theorem final (c : Dev nD) : (dats m 0 c).arrAt 9 (cfgs 0).N = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]
  exact point m c t y

/-- Result 1: a layer's weight as it is. -/
def G1 (x : FVec Ideal S2x1024x2816 .f32) : FVec Ideal S1024x2816 .bf16 := fun i => x (ix3 1 (i 0) (i 1))

/-- What a point leaves in result 1's block is the weight's block. -/
theorem point1 (c : Dev nD) (t : Fin cfg0.N) (y : S32x2816.Idx) :
    out0_10 (F := Ideal) (iblk m c 0 t) (iblk m c 1 t) (iblk m c 2 t) (iblk m c 3 t) (iblk m c 4 t) (iblk m c 5 t) (iblk m c 6 t) (iblk m c 7 t) (iblk m c 8 t) y = G1 (m ((c : Thread nD τ).loc main_arg5)) (((cfg0.win 10).blk t).view.emb y) := by
  obtain ⟨r, k, rfl⟩ : ∃ (r : Fin 32) (k : Fin 2816), y = ix2 r k := ⟨y 0, y 1, eq_ix2 y⟩
  have a : ∀ (z : Vec Ideal S1x32x2816 .f32), k0_pay6 (F := Ideal) z (ix2 r k) = z (ix3 0 r k) := fun z => by pointwise [k0_pay6]
  have e : G1 (m ((c : Thread nD τ).loc main_arg5)) (((cfg0.win 10).blk t).view.emb (ix2 r k)) = G1 (m ((c : Thread nD τ).loc main_arg5)) (ix2 ⟨t.val * 32 + r.val, by have := t.isLt; change t.val < 32 at this; omega⟩ k) := by
    blk_ext [idx t]
  rw [e]
  unfold out0_10
  rw [View.canon_unit_zero (by funext a; fin_cases a <;> rfl), a]
  unfold G1
  blk_point [iblk, V, idx t]

/-- Result 1 after the run. -/
theorem final1 (c : Dev nD) : (dats m 0 c).arrAt 10 (cfgs 0).N = G1 (m ((c : Thread nD τ).loc main_arg5)) := by
  refine (dats m 0 c).arrAt_eq_of_covers 10 _ (by decide +kernel) fun t _ y => ?_
  blk_simp
  rw [after0_10]
  exact point1 m c t y

/-- Result 2: a layer's weight as it is. -/
def G2 (x : FVec Ideal S2x1024x2816 .f32) : FVec Ideal S1024x2816 .bf16 := fun i => x (ix3 1 (i 0) (i 1))

/-- What a point leaves in result 2's block is the weight's block. -/
theorem point2 (c : Dev nD) (t : Fin cfg0.N) (y : S32x2816.Idx) :
    out0_11 (F := Ideal) (iblk m c 0 t) (iblk m c 1 t) (iblk m c 2 t) (iblk m c 3 t) (iblk m c 4 t) (iblk m c 5 t) (iblk m c 6 t) (iblk m c 7 t) (iblk m c 8 t) y = G2 (m ((c : Thread nD τ).loc main_arg6)) (((cfg0.win 11).blk t).view.emb y) := by
  obtain ⟨r, k, rfl⟩ : ∃ (r : Fin 32) (k : Fin 2816), y = ix2 r k := ⟨y 0, y 1, eq_ix2 y⟩
  have a : ∀ (z : Vec Ideal S1x32x2816 .f32), k0_pay7 (F := Ideal) z (ix2 r k) = z (ix3 0 r k) := fun z => by pointwise [k0_pay7]
  have e : G2 (m ((c : Thread nD τ).loc main_arg6)) (((cfg0.win 11).blk t).view.emb (ix2 r k)) = G2 (m ((c : Thread nD τ).loc main_arg6)) (ix2 ⟨t.val * 32 + r.val, by have := t.isLt; change t.val < 32 at this; omega⟩ k) := by
    blk_ext [idx t]
  rw [e]
  unfold out0_11
  rw [View.canon_unit_zero (by funext a; fin_cases a <;> rfl), a]
  unfold G2
  blk_point [iblk, V, idx t]

/-- Result 2 after the run. -/
theorem final2 (c : Dev nD) : (dats m 0 c).arrAt 11 (cfgs 0).N = G2 (m ((c : Thread nD τ).loc main_arg6)) := by
  refine (dats m 0 c).arrAt_eq_of_covers 11 _ (by decide +kernel) fun t _ y => ?_
  blk_simp
  rw [after0_11]
  exact point2 m c t y

/-- Result 3: a layer's weight as it is. -/
def G3 (x : FVec Ideal S2x2816x1024 .f32) : FVec Ideal S2816x1024 .bf16 := fun i => x (ix3 1 (i 0) (i 1))

/-- What a point leaves in result 3's block is the weight's block. -/
theorem point3 (c : Dev nD) (t : Fin cfg0.N) (y : S128x1024.Idx) :
    out0_12 (F := Ideal) (iblk m c 0 t) (iblk m c 1 t) (iblk m c 2 t) (iblk m c 3 t) (iblk m c 4 t) (iblk m c 5 t) (iblk m c 6 t) (iblk m c 7 t) (iblk m c 8 t) y = G3 (m ((c : Thread nD τ).loc main_arg7)) (((cfg0.win 12).blk t).view.emb y) := by
  obtain ⟨r, k, rfl⟩ : ∃ (r : Fin 128) (k : Fin 1024), y = ix2 r k := ⟨y 0, y 1, eq_ix2 y⟩
  have a : ∀ (z : Vec Ideal S1x128x1024 .f32), k0_pay1 (F := Ideal) z (ix2 r k) = z (ix3 0 r k) := fun z => by pointwise [k0_pay1]
  have e : G3 (m ((c : Thread nD τ).loc main_arg7)) (((cfg0.win 12).blk t).view.emb (ix2 r k)) = G3 (m ((c : Thread nD τ).loc main_arg7)) (ix2 ⟨min t.val 21 * 128 + r.val, by omega⟩ k) := by
    blk_ext [idx t]
  rw [e]
  unfold out0_12
  rw [View.canon_unit_zero (by funext a; fin_cases a <;> rfl), a]
  unfold G3
  blk_point [iblk, V, idx t]

/-- Result 3 after the run. -/
theorem final3 (c : Dev nD) : (dats m 0 c).arrAt 12 (cfgs 0).N = G3 (m ((c : Thread nD τ).loc main_arg7)) := by
  refine (dats m 0 c).arrAt_eq_of_covers 12 _ (by decide +kernel) fun t _ y => ?_
  blk_simp
  rw [after0_12]
  exact point3 m c t y

end Cert.FfnSecondIdeal.Pay

end
-- ==== Proof.FfnSecondClaims.lean ====
module

public import proofs.«01_k».proof.Defs
public import proofs.«01_k».proof.Proof.FfnSecondValue
public import proofs.«01_k».proof.Proof.Gen.FfnSecond.Frame
public import Idealize.ShloMosaic.Lib.Quiescent

@[expose] public section

noncomputable section

namespace Cert.Proof.FfnSecondClaims

open Idealize.ShloMosaic Idealize.ShloMosaic.TcCoe Idealize.SL.Sem

/-- The reference's first result is the kernel's first result array, of the same arguments. -/
theorem ref_eq (x0 : FVec Ideal Cert.FfnSecondIdeal.S4x8192x1024 .f32) (x1 : FVec Ideal Cert.FfnSecondIdeal.S2x1024 .f32)
    (x2 x3 : FVec Ideal Cert.FfnSecondIdeal.S2x1024x2816 .f32) (x4 : FVec Ideal Cert.FfnSecondIdeal.S2x2816x1024 .f32) :
    Cert.FfnSecondReferenceIdeal.Read.val_main_v29 (F := Ideal) x0 x1 x2 x3 x4 = Cert.FfnSecondIdeal.Pay.G x0 x1 x2 x3 x4 := by
  funext i
  obtain ⟨r, k, rfl⟩ : ∃ (r : Fin 32768) (k : Fin 1024), i = ix2 r k := ⟨i 0, i 1, eq_ix2 i⟩
  exact Cert.FfnSecondReferenceIdeal.Row.ref_apply x0 x1 x2 x3 x4 r k

/-- Result 1, both sides. -/
theorem ref_eq1 (x : FVec Ideal Cert.FfnSecondIdeal.S2x1024x2816 .f32) : Cert.FfnSecondReferenceIdeal.Read.val_main_v32 (F := Ideal) x = Cert.FfnSecondIdeal.Pay.G1 x := by
  funext i
  obtain ⟨r, k, rfl⟩ : ∃ (r : Fin 1024) (k : Fin 2816), i = ix2 r k := ⟨i 0, i 1, eq_ix2 i⟩
  exact Cert.FfnSecondReferenceIdeal.Row.ref1_apply x r k

/-- Result 2, both sides. -/
theorem ref_eq2 (x : FVec Ideal Cert.FfnSecondIdeal.S2x1024x2816 .f32) : Cert.FfnSecondReferenceIdeal.Read.val_main_v35 (F := Ideal) x = Cert.FfnSecondIdeal.Pay.G2 x := by
  funext i
  obtain ⟨r, k, rfl⟩ : ∃ (r : Fin 1024) (k : Fin 2816), i = ix2 r k := ⟨i 0, i 1, eq_ix2 i⟩
  exact Cert.FfnSecondReferenceIdeal.Row.ref2_apply x r k

/-- Result 3, both sides. -/
theorem ref_eq3 (x : FVec Ideal Cert.FfnSecondIdeal.S2x2816x1024 .f32) : Cert.FfnSecondReferenceIdeal.Read.val_main_v38 (F := Ideal) x = Cert.FfnSecondIdeal.Pay.G3 x := by
  funext i
  obtain ⟨r, k, rfl⟩ : ∃ (r : Fin 2816) (k : Fin 1024), i = ix2 r k := ⟨i 0, i 1, eq_ix2 i⟩
  exact Cert.FfnSecondReferenceIdeal.Row.ref3_apply x r k

/-- The kernel ends, its arguments unchanged. -/
theorem frame_p : Cert.quiescent_FfnSecond := fun m ρ _ => Cert.FfnSecond.Gen.frame m ρ

/-- The idealized kernel ends, its arguments unchanged. -/
theorem frame_pi : Cert.quiescent_FfnSecondIdeal := fun m ρ _ => Cert.FfnSecondIdeal.Gen.frame m ρ

/-- The reference ends, its arguments unchanged. -/
theorem frame_ri : Cert.quiescent_FfnSecondReferenceIdeal := fun m ρ _ =>
  (θ_run Cert.FfnSecondReferenceIdeal.defs _ _).mono (fun r h => ⟨fun c => (h c).2.2.2.2,
      Idealize.ShloMosaic.sem_eq_zero_of_no_sems (by decide) r.2⟩)
    (Cert.FfnSecondReferenceIdeal.Value.run (F := Ideal) m ρ)

/-- The idealization rewrote nothing. -/
theorem preserves : Cert.preserves_FfnSecond_FfnSecondIdeal := trivial

/-- The call's idealization and the reference end with the same arrays: every row's layer value, and the weights. -/
theorem algebraic : Cert.algebraic_FfnSecondIdeal_FfnSecondReferenceIdeal := by
  intro m ρ m' ρ' _ hagree
  refine ⟨fun c => Cert.FfnSecondIdeal.Pay.G (m ((c.tc : Thread Cert.FfnSecondIdeal.nD Cert.FfnSecondIdeal.τ).loc Cert.FfnSecondIdeal.main_arg0)) (m ((c.tc : Thread Cert.FfnSecondIdeal.nD Cert.FfnSecondIdeal.τ).loc Cert.FfnSecondIdeal.main_arg1)) (m ((c.tc : Thread Cert.FfnSecondIdeal.nD Cert.FfnSecondIdeal.τ).loc Cert.FfnSecondIdeal.main_arg2)) (m ((c.tc : Thread Cert.FfnSecondIdeal.nD Cert.FfnSecondIdeal.τ).loc Cert.FfnSecondIdeal.main_arg3)) (m ((c.tc : Thread Cert.FfnSecondIdeal.nD Cert.FfnSecondIdeal.τ).loc Cert.FfnSecondIdeal.main_arg4)),
    fun c => Cert.FfnSecondIdeal.Pay.G1 (m ((c.tc : Thread Cert.FfnSecondIdeal.nD Cert.FfnSecondIdeal.τ).loc Cert.FfnSecondIdeal.main_arg5)),
    fun c => Cert.FfnSecondIdeal.Pay.G2 (m ((c.tc : Thread Cert.FfnSecondIdeal.nD Cert.FfnSecondIdeal.τ).loc Cert.FfnSecondIdeal.main_arg6)),
    fun c => Cert.FfnSecondIdeal.Pay.G3 (m ((c.tc : Thread Cert.FfnSecondIdeal.nD Cert.FfnSecondIdeal.τ).loc Cert.FfnSecondIdeal.main_arg7)),
    ?_, ?_⟩
  · refine (θ_run Cert.FfnSecondIdeal.defs _ _).mono (fun _ h c => ?_) (Cert.FfnSecondIdeal.Value.run_blocks (F := Ideal) m ρ)
    obtain ⟨h0, h1, h2, h3, ha⟩ := h c
    exact ⟨h0.trans (Cert.FfnSecondIdeal.Pay.final m c), h1.trans (Cert.FfnSecondIdeal.Pay.final1 m c), h2.trans (Cert.FfnSecondIdeal.Pay.final2 m c), h3.trans (Cert.FfnSecondIdeal.Pay.final3 m c), ha⟩
  · refine (θ_run Cert.FfnSecondReferenceIdeal.defs _ _).mono (fun _ h c => ?_) (Cert.FfnSecondReferenceIdeal.Value.run (F := Ideal) m' ρ')
    obtain ⟨h0, h1, h2, h3, ha⟩ := h c
    obtain ⟨e0, e1, e2, e3, e4, e5, e6, e7, e8⟩ := hagree c
    refine ⟨h0.trans ?_, h1.trans ?_, h2.trans ?_, h3.trans ?_, ha⟩
    · rw [Cert.FfnSecondReferenceIdeal.Read.val_main_v29_eq, e0, e1, e2, e3, e4]
      exact ref_eq _ _ _ _ _
    · rw [Cert.FfnSecondReferenceIdeal.Read.val_main_v32_eq, e5]
      exact ref_eq1 _
    · rw [Cert.FfnSecondReferenceIdeal.Read.val_main_v35_eq, e6]
      exact ref_eq2 _
    · rw [Cert.FfnSecondReferenceIdeal.Read.val_main_v38_eq, e7]
      exact ref_eq3 _

end Cert.Proof.FfnSecondClaims

end
-- ==== Proof.MemoryClaims.lean ====
module

public import proofs.«01_k».proof.Defs
public import proofs.«01_k».proof.Proof.FfnSpec
public import proofs.«01_k».proof.Proof.Gen.MemoryIdeal.Value
public import proofs.«01_k».proof.Proof.Gen.Memory.Frame
public import proofs.«01_k».proof.Proof.Gen.MemoryReferenceIdeal.Run
public import proofs.«01_k».proof.Proof.Gen.MemoryReferenceIdeal.Read
public import Idealize.ShloMosaic.Lib.Pipeline.ValueKit
public import Idealize.ShloMosaic.Lib.Claim
public import Idealize.ShloMosaic.Lib.Quiescent

@[expose] public section

set_option maxRecDepth 16384

noncomputable section

namespace Cert.MemoryReferenceIdeal.Row

open Cert.MemoryReferenceIdeal Cert.MemoryReferenceIdeal.Gen Cert.MemoryReferenceIdeal.Read Idealize.ShloMosaic Idealize.ShloMosaic.TcCoe Cert.Spec

/-- The memory token's normalised row. -/
theorem v14_apply (x0 : FVec Ideal S4x256x1024 .f32) (x1 : FVec Ideal S2x1024 .f32) (b : Fin 4) (s : Fin 256) (c : Fin 1024) :
    val_main_v14 (F := Ideal) x0 x1 (ix3 b s c) = rms (fun k => x0 (ix3 b s k)) (fun k => x1 (ix2 0 k)) c := by
  unfold rms
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The reference's result at a token and column: the normalised row times the weight's column. -/
theorem ref_apply (x0 : FVec Ideal S4x256x1024 .f32) (x1 : FVec Ideal S2x1024 .f32) (x2 : FVec Ideal S2x1024x2048 .f32)
    (b : Fin 4) (s : Fin 256) (c : Fin 2048) :
    val_main_v18 (F := Ideal) x0 x1 x2 (ix3 b s c) =
      ∑ k : Fin 1024, rms (fun k => x0 (ix3 b s k)) (fun k => x1 (ix2 0 k)) k * x2 (ix3 0 k c) := by
  simp only [← v14_apply]
  pointwise [val_main_v18, val_main_v17, val_main_v16, val_main_v15]

end Cert.MemoryReferenceIdeal.Row

namespace Cert.MemoryIdeal.Pay

open Cert.MemoryIdeal Cert.MemoryIdeal.Gen Idealize.ShloMosaic Idealize.ShloMosaic.TcCoe Idealize.SL.Sem Cert.Spec
open Idealize.ShloMosaic.Pipeline (Dat)

variable (m : (ℓ : Loc nD τ sig) → Buf (Elt Ideal) ℓ)

/-- The windows' block indices: the memory and the result move with the point, the gain and the weight stay. -/
theorem idx : ∀ t : Fin cfg0.N, win0_0.index t = ![t.val, 0, 0] ∧ win0_1.index t = ![0, 0] ∧ win0_2.index t = ![0, 0]
    ∧ win0_3.index t = ![t.val, 0, 0] :=
  (by decide +kernel : ∀ t : Fin grid0.N, _)

/-- What the body leaves at token `r` of its block: the normalised row times the weight's column. -/
theorem out_apply (x0 : Vec Ideal S1x256x1024 .f32) (x1 : Vec Ideal S2x1024 .f32) (x2 : Vec Ideal S1024x2048 .bf16)
    (z : Fin 1) (r : Fin 256) (c : Fin 2048) :
    out0_3 (F := Ideal) x0 x1 x2 (ix3 z r c) =
      ∑ k : Fin 1024, rms (fun k => x0 (ix3 0 r k)) (fun k => x1 (ix2 0 k)) k * x2 (ix2 k c) := by
  unfold out0_3
  rw [View.canon_unit_zero (by funext a; fin_cases a <;> rfl)]
  unfold rms
  obtain rfl : z = 0 := Subsingleton.elim _ _
  pointwise [k0_pay1]

/-- The result array: every memory token's normalised row times the weight. -/
def G (x0 : FVec Ideal S4x256x1024 .f32) (x1 : FVec Ideal S2x1024 .f32) (x2 : FVec Ideal S2x1024x2048 .f32) :
    FVec Ideal S4x256x2048 .bf16 := fun i =>
  ∑ k : Fin 1024, rms (fun k => x0 (ix3 (i 0) (i 1) k)) (fun k => x1 (ix2 0 k)) k * x2 (ix3 0 k (i 2))

/-- What a point leaves in its block is the result at the block's place in the array. -/
theorem point (c : Dev nD) (t : Fin cfg0.N) (y : S1x256x2048.Idx) :
    out0_3 (F := Ideal) (iblk m c 0 t) (iblk m c 1 t) (iblk m c 2 t) y
      = G (m ((c : Thread nD τ).loc main_arg0)) (m ((c : Thread nD τ).loc main_arg1)) (m ((c : Thread nD τ).loc main_arg2))
        (((cfg0.win 3).blk t).view.emb y) := by
  obtain ⟨z, r, k, rfl⟩ : ∃ (z : Fin 1) (r : Fin 256) (k : Fin 2048), y = ix3 z r k := ⟨y 0, y 1, y 2, eq_ix3 y⟩
  obtain rfl : z = 0 := Subsingleton.elim _ _
  refine (out_apply (iblk m c 0 t) (iblk m c 1 t) (iblk m c 2 t) 0 r k).trans ?_
  have e : G (m ((c : Thread nD τ).loc main_arg0)) (m ((c : Thread nD τ).loc main_arg1)) (m ((c : Thread nD τ).loc main_arg2))
        (((cfg0.win 3).blk t).view.emb (ix3 0 r k))
      = G (m ((c : Thread nD τ).loc main_arg0)) (m ((c : Thread nD τ).loc main_arg1)) (m ((c : Thread nD τ).loc main_arg2))
        (ix3 ⟨t.val, t.isLt⟩ r k) := by
    blk_ext [idx t]
  rw [e]
  unfold G
  refine Finset.sum_congr rfl fun n _ => ?_
  congr 1
  · congr 1
    · funext k; blk_point [iblk, V, idx t]
    · funext k; blk_point [iblk, V, idx t]
  · blk_point [iblk, V, idx t]

/-- The result array after the run. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.MemoryIdeal.Pay

namespace Cert.Proof.MemoryClaims

open Idealize.ShloMosaic Idealize.ShloMosaic.TcCoe Idealize.SL.Sem

/-- The reference's result term is the kernel's result array, of the same arguments. -/
theorem ref_eq (x0 : FVec Ideal Cert.MemoryIdeal.S4x256x1024 .f32) (x1 : FVec Ideal Cert.MemoryIdeal.S2x1024 .f32)
    (x2 : FVec Ideal Cert.MemoryIdeal.S2x1024x2048 .f32) :
    Cert.MemoryReferenceIdeal.Read.val_main_v18 (F := Ideal) x0 x1 x2 = Cert.MemoryIdeal.Pay.G x0 x1 x2 := by
  funext i
  obtain ⟨b, s, k, rfl⟩ : ∃ (b : Fin 4) (s : Fin 256) (k : Fin 2048), i = ix3 b s k := ⟨i 0, i 1, i 2, eq_ix3 i⟩
  exact Cert.MemoryReferenceIdeal.Row.ref_apply x0 x1 x2 b s k

/-- The kernel ends, its arguments unchanged. -/
theorem frame_p : Cert.quiescent_Memory := fun m ρ _ => Cert.Memory.Gen.frame m ρ
/-- The idealized kernel ends, its arguments unchanged. -/
theorem frame_pi : Cert.quiescent_MemoryIdeal := fun m ρ _ => Cert.MemoryIdeal.Gen.frame m ρ
/-- The reference ends, its arguments unchanged. -/
theorem frame_ri : Cert.quiescent_MemoryReferenceIdeal := fun m ρ _ =>
  (θ_run Cert.MemoryReferenceIdeal.defs _ _).mono (fun r h => ⟨fun c => (h c).2,
      Idealize.ShloMosaic.sem_eq_zero_of_no_sems (by decide) r.2⟩)
    (Cert.MemoryReferenceIdeal.Value.run (F := Ideal) m ρ)
/-- The idealization rewrote nothing. -/
theorem preserves : Cert.preserves_Memory_MemoryIdeal := trivial

/-- The memory projection's idealization and the reference end with one array. -/
theorem algebraic : Cert.algebraic_MemoryIdeal_MemoryReferenceIdeal := by
  intro m ρ m' ρ' _ hagree
  refine ⟨fun c => Cert.MemoryIdeal.Pay.G (m ((c.tc : Thread Cert.MemoryIdeal.nD Cert.MemoryIdeal.τ).loc Cert.MemoryIdeal.main_arg0))
      (m ((c.tc : Thread Cert.MemoryIdeal.nD Cert.MemoryIdeal.τ).loc Cert.MemoryIdeal.main_arg1))
      (m ((c.tc : Thread Cert.MemoryIdeal.nD Cert.MemoryIdeal.τ).loc Cert.MemoryIdeal.main_arg2)), ?_, ?_⟩
  · exact (θ_run Cert.MemoryIdeal.defs _ _).mono (fun _ h c => ⟨(h c).1.trans (Cert.MemoryIdeal.Pay.final m c), (h c).2⟩)
      (Cert.MemoryIdeal.Value.run_blocks (F := Ideal) m ρ)
  · refine (θ_run Cert.MemoryReferenceIdeal.defs _ _).mono (fun _ h c => ⟨(h c).1.trans ?_, (h c).2⟩)
      (Cert.MemoryReferenceIdeal.Value.run (F := Ideal) m' ρ')
    obtain ⟨e0, e1, e2⟩ := hagree c
    rw [Cert.MemoryReferenceIdeal.Read.val_main_v18_eq, e0, e1, e2]
    exact ref_eq _ _ _

end Cert.Proof.MemoryClaims

end
-- ==== Proof.RotaryPay.lean ====
module

public import proofs.«01_k».proof.Proof.Gen.RotaryIdeal.Value
public import Idealize.ShloMosaic.Lib.Pointwise
public import Idealize.ShloMosaic.Lib.Pipeline.ValueKit

@[expose] public section

set_option maxRecDepth 16384

noncomputable section

namespace Cert.RotaryIdeal.Pay

open Cert.RotaryIdeal Cert.RotaryIdeal.Gen Idealize.ShloMosaic Idealize.ShloMosaic.TcCoe

/-- A lane's group, in the slab: the lane over 32. -/
theorem group_apply (r l : Fin 128) : k0_pay8 (ix2 r l) = BitVec.ofNat 32 (l.val / 32) := by
  pointwise [k0_pay8]
  revert l
  decide +kernel

variable (x0 : Vec Ideal S16x128 .i32) (x1 : Vec Ideal S1x128 .f32) (x2 x3 : Vec Ideal S1x64x2816 .f32) (x4 : Vec Ideal S1x176x1024 .f32)

/-- A lane's group, in the table: the lane over 32. -/
theorem lane_apply (r : Fin 512) (l : Fin 128) : k0_pay49 (F := Ideal) x0 x1 x2 x3 x4 (ix2 r l) = BitVec.ofNat 32 (l.val / 32) := by
  pointwise [k0_pay49, k0_pay21, k0_pay44, k0_pay46, k0_pay47, k0_pay48, k0_pay18, k0_pay19, k0_pay20]
  revert l
  decide +kernel

/-- Whether a lane's group is even. -/
theorem even_apply (r : Fin 512) (l : Fin 128) :
    k0_pay50 (F := Ideal) x0 x1 x2 x3 x4 (ix2 r l) = if l.val / 32 % 2 = 0 then 1#1 else 0#1 := by
  pointwise [k0_pay50, k0_pay22, k0_pay21, k0_pay44, k0_pay46, k0_pay47, k0_pay48, k0_pay18, k0_pay19, k0_pay20]
  revert l
  decide +kernel

/-- The transposed positions. -/
theorem pay6_apply (r : Fin 128) (a : Fin 16) :
    k0_pay6 (F := Ideal) x0 (ix2 r ⟨a.val, by omega⟩) = FloatOps.sitofp (F := Ideal) .f32 (x0 (ix2 a r)) := by
  pointwise [k0_pay6]

/-- Choosing by the group's number, one comparison at a time. -/
theorem pick (l : Fin 128) (a b c d : EReal) :
    Scalar.select (IntOp.cmpi CmpIPredicate.eq (BitVec.ofNat 32 (l.val / 32)) 3#32) d
      (Scalar.select (IntOp.cmpi CmpIPredicate.eq (BitVec.ofNat 32 (l.val / 32)) 2#32) c
        (Scalar.select (IntOp.cmpi CmpIPredicate.eq (BitVec.ofNat 32 (l.val / 32)) 1#32) b a))
      = if l.val / 32 = 3 then d else if l.val / 32 = 2 then c else if l.val / 32 = 1 then b else a := by
  have hl : l.val / 32 = 0 ∨ l.val / 32 = 1 ∨ l.val / 32 = 2 ∨ l.val / 32 = 3 := by omega
  rcases hl with h | h | h | h <;> rw [h] <;> rfl

/-- Choosing by whether the group is one of the first two. -/
theorem pick_low (l : Fin 128) (a b : EReal) :
    Scalar.select (IntOp.cmpi CmpIPredicate.slt (BitVec.ofNat 32 (l.val / 32)) 2#32) a b = if l.val / 32 < 2 then a else b := by
  have hl : l.val / 32 = 0 ∨ l.val / 32 = 1 ∨ l.val / 32 = 2 ∨ l.val / 32 = 3 := by omega
  rcases hl with h | h | h | h <;> rw [h] <;> rfl

/-- Choosing by a flag that is a proposition's truth. -/
theorem pick_if (p : Prop) [Decidable p] (a b : EReal) : Scalar.select (if p then 1#1 else 0#1) a b = if p then a else b := by
  by_cases h : p
  · rw [if_pos h, if_pos h]; rfl
  · rw [if_neg h, if_neg h]; rfl

/-- The angle at a row and lane of the stacked slabs: row `r` holds, in lane group `g`, position `512 g + r`. -/
theorem ang_apply (r : Fin 512) (l : Fin 128) : k0_pay45 (F := Ideal) x0 x1 x2 x3 x4 (ix2 r l)
    = k0_pay6 (F := Ideal) x0 (ix2 ⟨r.val % 128, by omega⟩ ⟨4 * (l.val / 32) + r.val / 128, by omega⟩) * x1 (ix2 0 l) := by
  have hl : l.val / 32 = 0 ∨ l.val / 32 = 1 ∨ l.val / 32 = 2 ∨ l.val / 32 = 3 := by omega
  have hld : View.ld x0 r0_0 = x0 := by
    funext y
    obtain ⟨a, b, rfl⟩ : ∃ (a : Fin 16) (b : Fin 128), y = ix2 a b := ⟨y 0, y 1, eq_ix2 y⟩
    pointwise []
  have key : ∀ (r' k' R K : Fin 128), r'.val = R.val → k'.val = K.val →
      k0_pay6 (F := Ideal) x0 (ix2 r' k') * x1 (ix2 0 l) = k0_pay6 (F := Ideal) x0 (ix2 R K) * x1 (ix2 0 l) := by
    intro r' k' R K e1 e2
    rw [Fin.ext e1, Fin.ext e2]
  pointwise [k0_pay45, k0_pay17, k0_pay11, k0_pay12, k0_pay13, k0_pay14, k0_pay15, k0_pay16, k0_pay9, k0_pay10, k0_pay41, k0_pay42, k0_pay43, k0_pay7]
  simp only [group_apply, pick, hld]
  split_ifs <;> refine key _ _ _ _ ?_ ?_ <;> first | omega | (simp only []; omega) | (simp; omega)

/-- The cosine table's first quarter: every lane group repeats group 0. -/
theorem cos0_apply (r : Fin 512) (l : Fin 128) :
    k0_pay29 (F := Ideal) (k0_pay45 x0 x1 x2 x3 x4) (k0_pay44 x0 x1 x2 x3 x4) 32#32 (k0_pay46 x0 x1 x2 x3 x4) (k0_pay47 x0 x1 x2 x3 x4) (k0_pay48 x0 x1 x2 x3 x4) (ix2 r l)
      = Ideal.cos (k0_pay45 (F := Ideal) x0 x1 x2 x3 x4 (ix2 r ⟨l.val % 32, by omega⟩)) := by
  have he := even_apply x0 x1 x2 x3 x4 r
  have hg := lane_apply x0 x1 x2 x3 x4 r
  simp only [k0_pay50, k0_pay49] at he hg ⊢
  generalize k0_pay45 (F := Ideal) x0 x1 x2 x3 x4 = A
  have key : ∀ l' : Fin 128, l'.val = l.val % 32 → Ideal.cos (A (ix2 r l')) = Ideal.cos (A (ix2 r ⟨l.val % 32, by omega⟩)) :=
    fun l' e => by rw [Fin.ext (a := l') (b := ⟨l.val % 32, by omega⟩) e]
  pointwise [k0_pay29, k0_pay25, k0_pay27, k0_pay23]
  simp only [he, hg, pick_low, pick_if]
  split_ifs <;> first | (exfalso; omega) | (refine key _ ?_; first | omega | (simp only []; omega))

/-- The cosine table's second quarter: every lane group repeats group 1. -/
theorem cos1_apply (r : Fin 512) (l : Fin 128) :
    k0_pay30 (F := Ideal) (k0_pay45 x0 x1 x2 x3 x4) (k0_pay44 x0 x1 x2 x3 x4) 32#32 (k0_pay46 x0 x1 x2 x3 x4) (k0_pay47 x0 x1 x2 x3 x4) (k0_pay48 x0 x1 x2 x3 x4) (ix2 r l)
      = Ideal.cos (k0_pay45 (F := Ideal) x0 x1 x2 x3 x4 (ix2 r ⟨32 + l.val % 32, by omega⟩)) := by
  have he := even_apply x0 x1 x2 x3 x4 r
  have hg := lane_apply x0 x1 x2 x3 x4 r
  simp only [k0_pay50, k0_pay49] at he hg ⊢
  generalize k0_pay45 (F := Ideal) x0 x1 x2 x3 x4 = A
  have key : ∀ l' : Fin 128, l'.val = 32 + l.val % 32 → Ideal.cos (A (ix2 r l')) = Ideal.cos (A (ix2 r ⟨32 + l.val % 32, by omega⟩)) :=
    fun l' e => by rw [Fin.ext (a := l') (b := ⟨32 + l.val % 32, by omega⟩) e]
  pointwise [k0_pay30, k0_pay26, k0_pay28, k0_pay23]
  simp only [he, hg, pick_low, pick_if]
  split_ifs <;> first | (exfalso; omega) | (refine key _ ?_; first | omega | (simp only []; omega))

/-- The cosine table's third quarter: every lane group repeats group 2. -/
theorem cos2_apply (r : Fin 512) (l : Fin 128) :
    k0_pay31 (F := Ideal) (k0_pay49 x0 x1 x2 x3 x4) (k0_pay25 (k0_pay45 x0 x1 x2 x3 x4) (k0_pay44 x0 x1 x2 x3 x4) 32#32 (k0_pay46 x0 x1 x2 x3 x4) (k0_pay47 x0 x1 x2 x3 x4) (k0_pay48 x0 x1 x2 x3 x4)) (k0_pay27 (k0_pay45 x0 x1 x2 x3 x4) (k0_pay44 x0 x1 x2 x3 x4) 32#32 (k0_pay46 x0 x1 x2 x3 x4) (k0_pay47 x0 x1 x2 x3 x4) (k0_pay48 x0 x1 x2 x3 x4)) (ix2 r l)
      = Ideal.cos (k0_pay45 (F := Ideal) x0 x1 x2 x3 x4 (ix2 r ⟨64 + l.val % 32, by omega⟩)) := by
  have he := even_apply x0 x1 x2 x3 x4 r
  have hg := lane_apply x0 x1 x2 x3 x4 r
  simp only [k0_pay50, k0_pay49] at he hg ⊢
  generalize k0_pay45 (F := Ideal) x0 x1 x2 x3 x4 = A
  have key : ∀ l' : Fin 128, l'.val = 64 + l.val % 32 → Ideal.cos (A (ix2 r l')) = Ideal.cos (A (ix2 r ⟨64 + l.val % 32, by omega⟩)) :=
    fun l' e => by rw [Fin.ext (a := l') (b := ⟨64 + l.val % 32, by omega⟩) e]
  pointwise [k0_pay31, k0_pay25, k0_pay27, k0_pay23]
  simp only [he, hg, pick_low, pick_if]
  split_ifs <;> first | (exfalso; omega) | (refine key _ ?_; first | omega | (simp only []; omega))

/-- The cosine table's last quarter: every lane group repeats group 3. -/
theorem cos3_apply (r : Fin 512) (l : Fin 128) :
    k0_pay32 (F := Ideal) (k0_pay49 x0 x1 x2 x3 x4) (k0_pay26 (k0_pay45 x0 x1 x2 x3 x4) (k0_pay44 x0 x1 x2 x3 x4) 32#32 (k0_pay46 x0 x1 x2 x3 x4) (k0_pay47 x0 x1 x2 x3 x4) (k0_pay48 x0 x1 x2 x3 x4)) (k0_pay28 (k0_pay45 x0 x1 x2 x3 x4) (k0_pay44 x0 x1 x2 x3 x4) 32#32 (k0_pay46 x0 x1 x2 x3 x4) (k0_pay47 x0 x1 x2 x3 x4) (k0_pay48 x0 x1 x2 x3 x4)) (ix2 r l)
      = Ideal.cos (k0_pay45 (F := Ideal) x0 x1 x2 x3 x4 (ix2 r ⟨96 + l.val % 32, by omega⟩)) := by
  have he := even_apply x0 x1 x2 x3 x4 r
  have hg := lane_apply x0 x1 x2 x3 x4 r
  simp only [k0_pay50, k0_pay49] at he hg ⊢
  generalize k0_pay45 (F := Ideal) x0 x1 x2 x3 x4 = A
  have key : ∀ l' : Fin 128, l'.val = 96 + l.val % 32 → Ideal.cos (A (ix2 r l')) = Ideal.cos (A (ix2 r ⟨96 + l.val % 32, by omega⟩)) :=
    fun l' e => by rw [Fin.ext (a := l') (b := ⟨96 + l.val % 32, by omega⟩) e]
  pointwise [k0_pay32, k0_pay26, k0_pay28, k0_pay23]
  simp only [he, hg, pick_low, pick_if]
  split_ifs <;> first | (exfalso; omega) | (refine key _ ?_; first | omega | (simp only []; omega))

/-- The sine table's first quarter: every lane group repeats group 0, the even groups negated. -/
theorem sin0_apply (r : Fin 512) (l : Fin 128) :
    k0_pay37 (F := Ideal) (k0_pay49 x0 x1 x2 x3 x4) (k0_pay50 x0 x1 x2 x3 x4) (k0_pay51 x0 x1 x2 x3 x4) (ix2 r l)
      = if l.val / 32 % 2 = 0 then -Ideal.sin (k0_pay45 (F := Ideal) x0 x1 x2 x3 x4 (ix2 r ⟨l.val % 32, by omega⟩))
        else Ideal.sin (k0_pay45 (F := Ideal) x0 x1 x2 x3 x4 (ix2 r ⟨l.val % 32, by omega⟩)) := by
  have he := even_apply x0 x1 x2 x3 x4 r
  have hg := lane_apply x0 x1 x2 x3 x4 r
  unfold k0_pay51
  generalize k0_pay45 (F := Ideal) x0 x1 x2 x3 x4 = A
  have key : ∀ l' : Fin 128, l'.val = l.val % 32 → Ideal.sin (A (ix2 r l')) = Ideal.sin (A (ix2 r ⟨l.val % 32, by omega⟩)) :=
    fun l' e => by rw [Fin.ext (a := l') (b := ⟨l.val % 32, by omega⟩) e]
  pointwise [k0_pay37, k0_pay33, k0_pay35, k0_pay24]
  simp only [he, hg, pick_low, pick_if, zero_sub]
  split_ifs <;> first | (exfalso; omega) | (refine congrArg (fun z => -z) (key _ ?_); first | omega | (simp only []; omega)) | (refine key _ ?_; first | omega | (simp only []; omega))

/-- The sine table's second quarter: every lane group repeats group 1, the even groups negated. -/
theorem sin1_apply (r : Fin 512) (l : Fin 128) :
    k0_pay38 (F := Ideal) (k0_pay49 x0 x1 x2 x3 x4) (k0_pay50 x0 x1 x2 x3 x4) (k0_pay51 x0 x1 x2 x3 x4) (ix2 r l)
      = if l.val / 32 % 2 = 0 then -Ideal.sin (k0_pay45 (F := Ideal) x0 x1 x2 x3 x4 (ix2 r ⟨32 + l.val % 32, by omega⟩))
        else Ideal.sin (k0_pay45 (F := Ideal) x0 x1 x2 x3 x4 (ix2 r ⟨32 + l.val % 32, by omega⟩)) := by
  have he := even_apply x0 x1 x2 x3 x4 r
  have hg := lane_apply x0 x1 x2 x3 x4 r
  unfold k0_pay51
  generalize k0_pay45 (F := Ideal) x0 x1 x2 x3 x4 = A
  have key : ∀ l' : Fin 128, l'.val = 32 + l.val % 32 → Ideal.sin (A (ix2 r l')) = Ideal.sin (A (ix2 r ⟨32 + l.val % 32, by omega⟩)) :=
    fun l' e => by rw [Fin.ext (a := l') (b := ⟨32 + l.val % 32, by omega⟩) e]
  pointwise [k0_pay38, k0_pay34, k0_pay36, k0_pay24]
  simp only [he, hg, pick_low, pick_if, zero_sub]
  split_ifs <;> first | (exfalso; omega) | (refine congrArg (fun z => -z) (key _ ?_); first | omega | (simp only []; omega)) | (refine key _ ?_; first | omega | (simp only []; omega))

/-- The sine table's third quarter: every lane group repeats group 2, the even groups negated. -/
theorem sin2_apply (r : Fin 512) (l : Fin 128) :
    k0_pay1 (F := Ideal) (k0_pay50 x0 x1 x2 x3 x4) (k0_pay39 (k0_pay49 x0 x1 x2 x3 x4) (k0_pay50 x0 x1 x2 x3 x4) (k0_pay51 x0 x1 x2 x3 x4)) (k0_pay40 (F := Ideal)) (ix2 r l)
      = if l.val / 32 % 2 = 0 then -Ideal.sin (k0_pay45 (F := Ideal) x0 x1 x2 x3 x4 (ix2 r ⟨64 + l.val % 32, by omega⟩))
        else Ideal.sin (k0_pay45 (F := Ideal) x0 x1 x2 x3 x4 (ix2 r ⟨64 + l.val % 32, by omega⟩)) := by
  have he := even_apply x0 x1 x2 x3 x4 r
  have hg := lane_apply x0 x1 x2 x3 x4 r
  unfold k0_pay51
  generalize k0_pay45 (F := Ideal) x0 x1 x2 x3 x4 = A
  have key : ∀ l' : Fin 128, l'.val = 64 + l.val % 32 → Ideal.sin (A (ix2 r l')) = Ideal.sin (A (ix2 r ⟨64 + l.val % 32, by omega⟩)) :=
    fun l' e => by rw [Fin.ext (a := l') (b := ⟨64 + l.val % 32, by omega⟩) e]
  pointwise [k0_pay1, k0_pay40, k0_pay39, k0_pay33, k0_pay35, k0_pay24]
  simp only [he, hg, pick_low, pick_if, zero_sub]
  split_ifs <;> first | (exfalso; omega) | (refine congrArg (fun z => -z) (key _ ?_); first | omega | (simp only []; omega)) | (refine key _ ?_; first | omega | (simp only []; omega))

/-- The sine table's last quarter: every lane group repeats group 3, the even groups negated. -/
theorem sin3_apply (r : Fin 512) (l : Fin 128) :
    k0_pay2 (F := Ideal) (k0_pay49 x0 x1 x2 x3 x4) (k0_pay50 x0 x1 x2 x3 x4) (k0_pay34 (k0_pay50 x0 x1 x2 x3 x4) (k0_pay51 x0 x1 x2 x3 x4)) (k0_pay36 (k0_pay50 x0 x1 x2 x3 x4) (k0_pay51 x0 x1 x2 x3 x4)) (ix2 r l)
      = if l.val / 32 % 2 = 0 then -Ideal.sin (k0_pay45 (F := Ideal) x0 x1 x2 x3 x4 (ix2 r ⟨96 + l.val % 32, by omega⟩))
        else Ideal.sin (k0_pay45 (F := Ideal) x0 x1 x2 x3 x4 (ix2 r ⟨96 + l.val % 32, by omega⟩)) := by
  have he := even_apply x0 x1 x2 x3 x4 r
  have hg := lane_apply x0 x1 x2 x3 x4 r
  unfold k0_pay51
  generalize k0_pay45 (F := Ideal) x0 x1 x2 x3 x4 = A
  have key : ∀ l' : Fin 128, l'.val = 96 + l.val % 32 → Ideal.sin (A (ix2 r l')) = Ideal.sin (A (ix2 r ⟨96 + l.val % 32, by omega⟩)) :=
    fun l' e => by rw [Fin.ext (a := l') (b := ⟨96 + l.val % 32, by omega⟩) e]
  pointwise [k0_pay2, k0_pay34, k0_pay36, k0_pay24]
  simp only [he, hg, pick_low, pick_if, zero_sub]
  split_ifs <;> first | (exfalso; omega) | (refine congrArg (fun z => -z) (key _ ?_); first | omega | (simp only []; omega)) | (refine key _ ?_; first | omega | (simp only []; omega))

end Cert.RotaryIdeal.Pay

end
-- ==== Proof.RotaryValue.lean ====
module

public import proofs.«01_k».proof.Proof.RotaryPay
public import proofs.«01_k».proof.Proof.Gen.RotaryReferenceIdeal.Run
public import proofs.«01_k».proof.Proof.Gen.RotaryReferenceIdeal.Read
public import Idealize.ShloMosaic.Lib.Claim

@[expose] public section

set_option maxRecDepth 16384

noncomputable section

namespace Cert.RotaryIdeal.Pay

open Cert.RotaryIdeal Cert.RotaryIdeal.Gen Idealize.ShloMosaic Idealize.ShloMosaic.TcCoe Idealize.SL.Sem
open Idealize.ShloMosaic.Pipeline (Dat)

/-- The angle of a position at frequency `f` of 32. -/
def angle (p : BitVec 32) (f : Fin 32) : EReal :=
  FloatOps.sitofp (F := Ideal) .f32 p * Cert.RotaryReferenceIdeal.Read.val_main_v9 (F := Ideal) (ix1 f)

/-- The sine table's sign at a lane: the even lane groups are negated. -/
def signed (l : Fin 128) (z : EReal) : EReal := if l.val / 32 % 2 = 0 then -z else z

section Block

variable (x0 : Vec Ideal S16x128 .i32) (x1 : Vec Ideal S1x128 .f32) (x2 x3 : Vec Ideal S1x64x2816 .f32) (x4 : Vec Ideal S1x176x1024 .f32)

/-- The angle at row `y = 512 k + r` of the block, read at a lane of group `k`. -/
theorem ang_at (k : Fin 4) (r : Fin 512) (n : Fin 128) (hn : n.val / 32 = k.val) (y : Fin 2048) (hy : y.val = 512 * k.val + r.val) :
    k0_pay45 (F := Ideal) x0 x1 x2 x3 x4 (ix2 r n)
      = FloatOps.sitofp (F := Ideal) .f32 (x0 (ix2 ⟨y.val / 128, by omega⟩ ⟨y.val % 128, by omega⟩)) * x1 (ix2 0 n) := by
  rw [ang_apply]
  have h : ∀ (a a' : Fin 128) (b : Fin 128) (b' : Fin 16), a.val = a'.val → b.val = b'.val →
      k0_pay6 (F := Ideal) x0 (ix2 a b) = FloatOps.sitofp (F := Ideal) .f32 (x0 (ix2 b' a')) := by
    intro a a' b b' e1 e2
    rw [Fin.ext e1, ← pay6_apply x0 a' b']
    congr 2
    exact Fin.ext e2
  rw [h _ ⟨y.val % 128, by omega⟩ _ ⟨y.val / 128, by omega⟩]
  · simp only []; omega
  · simp only []; omega

/-- The cosine block at row `y`, lane `l`. -/
theorem out5_apply (y : Fin 2048) (l : Fin 128) : out0_5 (F := Ideal) x0 x1 x2 x3 x4 (ix2 y l)
    = Ideal.cos (FloatOps.sitofp (F := Ideal) .f32 (x0 (ix2 ⟨y.val / 128, by omega⟩ ⟨y.val % 128, by omega⟩))
        * x1 (ix2 0 ⟨32 * (y.val / 512) + l.val % 32, by omega⟩)) := by
  unfold out0_5
  refine View.canon_eq_of_allAt _ _ _ (cover0_5 _ _ _ _ _) ?_
  refine View.allAt_cons_unit _ _ _ _ _ ?_ ?_
  · intro x hx
    have h0 : y.val = 1536 + (x 0).val := hx 0
    have h1 : l.val = 0 + (x 1).val := hx 1
    obtain ⟨r, n, rfl⟩ : ∃ (r : Fin 512) (n : Fin 128), x = ix2 r n := ⟨x 0, x 1, eq_ix2 x⟩
    change y.val = 1536 + r.val at h0
    change l.val = 0 + n.val at h1
    obtain rfl : l = n := Fin.ext (by omega)
    have e : 32 * (y.val / 512) + l.val % 32 = (96 + l.val % 32 : ℕ) := by omega
    refine (cos3_apply x0 x1 x2 x3 x4 r l).trans ?_
    rw [ang_at x0 x1 x2 x3 x4 3 r _ (by simp only []; omega) y (by simp; omega)]
    simp only [e]
  refine View.allAt_cons_unit _ _ _ _ _ ?_ ?_
  · intro x hx
    have h0 : y.val = 1024 + (x 0).val := hx 0
    have h1 : l.val = 0 + (x 1).val := hx 1
    obtain ⟨r, n, rfl⟩ : ∃ (r : Fin 512) (n : Fin 128), x = ix2 r n := ⟨x 0, x 1, eq_ix2 x⟩
    change y.val = 1024 + r.val at h0
    change l.val = 0 + n.val at h1
    obtain rfl : l = n := Fin.ext (by omega)
    have e : 32 * (y.val / 512) + l.val % 32 = (64 + l.val % 32 : ℕ) := by omega
    refine (cos2_apply x0 x1 x2 x3 x4 r l).trans ?_
    rw [ang_at x0 x1 x2 x3 x4 2 r _ (by simp only []; omega) y (by simp; omega)]
    simp only [e]
  refine View.allAt_cons_unit _ _ _ _ _ ?_ ?_
  · intro x hx
    have h0 : y.val = 512 + (x 0).val := hx 0
    have h1 : l.val = 0 + (x 1).val := hx 1
    obtain ⟨r, n, rfl⟩ : ∃ (r : Fin 512) (n : Fin 128), x = ix2 r n := ⟨x 0, x 1, eq_ix2 x⟩
    change y.val = 512 + r.val at h0
    change l.val = 0 + n.val at h1
    obtain rfl : l = n := Fin.ext (by omega)
    have e : 32 * (y.val / 512) + l.val % 32 = (32 + l.val % 32 : ℕ) := by omega
    refine (cos1_apply x0 x1 x2 x3 x4 r l).trans ?_
    rw [ang_at x0 x1 x2 x3 x4 1 r _ (by simp only []; omega) y (by simp; omega)]
    simp only [e]
  refine View.allAt_cons_unit _ _ _ _ _ ?_ ?_
  · intro x hx
    have h0 : y.val = 0 + (x 0).val := hx 0
    have h1 : l.val = 0 + (x 1).val := hx 1
    obtain ⟨r, n, rfl⟩ : ∃ (r : Fin 512) (n : Fin 128), x = ix2 r n := ⟨x 0, x 1, eq_ix2 x⟩
    change y.val = 0 + r.val at h0
    change l.val = 0 + n.val at h1
    obtain rfl : l = n := Fin.ext (by omega)
    have e : 32 * (y.val / 512) + l.val % 32 = (l.val % 32 : ℕ) := by omega
    refine (cos0_apply x0 x1 x2 x3 x4 r l).trans ?_
    rw [ang_at x0 x1 x2 x3 x4 0 r _ (by simp only []; omega) y (by simp; omega)]
    simp only [e]
  exact View.allAt_nil _ _

/-- The sine block at row `y`, lane `l`. -/
theorem out6_apply (y : Fin 2048) (l : Fin 128) : out0_6 (F := Ideal) x0 x1 x2 x3 x4 (ix2 y l)
    = signed l (Ideal.sin (FloatOps.sitofp (F := Ideal) .f32 (x0 (ix2 ⟨y.val / 128, by omega⟩ ⟨y.val % 128, by omega⟩))
        * x1 (ix2 0 ⟨32 * (y.val / 512) + l.val % 32, by omega⟩))) := by
  unfold out0_6 signed
  refine View.canon_eq_of_allAt _ _ _ (cover0_5 _ _ _ _ _) ?_
  refine View.allAt_cons_unit _ _ _ _ _ ?_ ?_
  · intro x hx
    have h0 : y.val = 1536 + (x 0).val := hx 0
    have h1 : l.val = 0 + (x 1).val := hx 1
    obtain ⟨r, n, rfl⟩ : ∃ (r : Fin 512) (n : Fin 128), x = ix2 r n := ⟨x 0, x 1, eq_ix2 x⟩
    change y.val = 1536 + r.val at h0
    change l.val = 0 + n.val at h1
    obtain rfl : l = n := Fin.ext (by omega)
    have e : 32 * (y.val / 512) + l.val % 32 = (96 + l.val % 32 : ℕ) := by omega
    refine (sin3_apply x0 x1 x2 x3 x4 r l).trans ?_
    rw [ang_at x0 x1 x2 x3 x4 3 r _ (by simp only []; omega) y (by simp; omega)]
    simp only [e]
  refine View.allAt_cons_unit _ _ _ _ _ ?_ ?_
  · intro x hx
    have h0 : y.val = 1024 + (x 0).val := hx 0
    have h1 : l.val = 0 + (x 1).val := hx 1
    obtain ⟨r, n, rfl⟩ : ∃ (r : Fin 512) (n : Fin 128), x = ix2 r n := ⟨x 0, x 1, eq_ix2 x⟩
    change y.val = 1024 + r.val at h0
    change l.val = 0 + n.val at h1
    obtain rfl : l = n := Fin.ext (by omega)
    have e : 32 * (y.val / 512) + l.val % 32 = (64 + l.val % 32 : ℕ) := by omega
    refine (sin2_apply x0 x1 x2 x3 x4 r l).trans ?_
    rw [ang_at x0 x1 x2 x3 x4 2 r _ (by simp only []; omega) y (by simp; omega)]
    simp only [e]
  refine View.allAt_cons_unit _ _ _ _ _ ?_ ?_
  · intro x hx
    have h0 : y.val = 512 + (x 0).val := hx 0
    have h1 : l.val = 0 + (x 1).val := hx 1
    obtain ⟨r, n, rfl⟩ : ∃ (r : Fin 512) (n : Fin 128), x = ix2 r n := ⟨x 0, x 1, eq_ix2 x⟩
    change y.val = 512 + r.val at h0
    change l.val = 0 + n.val at h1
    obtain rfl : l = n := Fin.ext (by omega)
    have e : 32 * (y.val / 512) + l.val % 32 = (32 + l.val % 32 : ℕ) := by omega
    refine (sin1_apply x0 x1 x2 x3 x4 r l).trans ?_
    rw [ang_at x0 x1 x2 x3 x4 1 r _ (by simp only []; omega) y (by simp; omega)]
    simp only [e]
  refine View.allAt_cons_unit _ _ _ _ _ ?_ ?_
  · intro x hx
    have h0 : y.val = 0 + (x 0).val := hx 0
    have h1 : l.val = 0 + (x 1).val := hx 1
    obtain ⟨r, n, rfl⟩ : ∃ (r : Fin 512) (n : Fin 128), x = ix2 r n := ⟨x 0, x 1, eq_ix2 x⟩
    change y.val = 0 + r.val at h0
    change l.val = 0 + n.val at h1
    obtain rfl : l = n := Fin.ext (by omega)
    have e : 32 * (y.val / 512) + l.val % 32 = (l.val % 32 : ℕ) := by omega
    refine (sin0_apply x0 x1 x2 x3 x4 r l).trans ?_
    rw [ang_at x0 x1 x2 x3 x4 0 r _ (by simp only []; omega) y (by simp; omega)]
    simp only [e]
  exact View.allAt_nil _ _

end Block

variable (m : (ℓ : Loc nD τ sig) → Buf (Elt Ideal) ℓ)

/-- The windows' block indices: positions and tables move with the point, the frequencies stay, the weights move by row blocks. -/
theorem idx : ∀ t : Fin cfg0.N, win0_0.index t = ![t.val, 0] ∧ win0_1.index t = ![0, 0]
    ∧ win0_2.index t = ![0, t.val, 0] ∧ win0_3.index t = ![0, t.val, 0] ∧ win0_4.index t = ![0, t.val, 0]
    ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

/-- The frequencies as the call receives them: the thirty-two, four times over. -/
def freqs : FVec Ideal S1x128 .f32 :=
  shapeCast S1x128 (shapeCast S128 (broadcastInDim S4x32 ![0, 1] bcast_S1x32_S4x32_0_1
    (shapeCast S1x32 (Cert.RotaryReferenceIdeal.Read.val_main_v9 (F := Ideal)) shapeCasts_S32_S1x32)) shapeCasts_S4x32_S128) shapeCasts_S128_S1x128

/-- The frequency at a lane. -/
theorem freqs_apply (n : Fin 128) : freqs (ix2 0 n) = Cert.RotaryReferenceIdeal.Read.val_main_v9 (F := Ideal) (ix1 ⟨n.val % 32, by omega⟩) := by
  unfold freqs
  generalize Cert.RotaryReferenceIdeal.Read.val_main_v9 (F := Ideal) = w
  pointwise []

/-- What the call receives as frequencies. -/
theorem freq_in (c : Dev nD) : V m c (Pipeline.arrRef spec0 1) = freqs := by
  rfl

/-- What the call receives as positions: the argument's, 128 a row. -/
theorem pos_in (c : Dev nD) : V m c (Pipeline.arrRef spec0 0) = shapeCast S256x128 (m ((c : Thread nD τ).loc main_arg0)) shapeCasts_S4x8192_S256x128 := by
  rfl

/-- The positions, one by one. -/
theorem pos_row (x : IVec S4x8192 32) (a : Fin 256) (b : Fin 128) : shapeCast S256x128 x shapeCasts_S4x8192_S256x128 (ix2 a b)
    = x (ix2 ⟨(a.val * 128 + b.val) / 8192, by omega⟩ ⟨(a.val * 128 + b.val) % 8192, by omega⟩) := by
  have h : ∀ (p p' : Fin 4) (q q' : Fin 8192), p.val = p'.val → q.val = q'.val → x (ix2 p q) = x (ix2 p' q') :=
    fun p p' q q' e1 e2 => by rw [Fin.ext e1, Fin.ext e2]
  pointwise []
  refine h _ _ _ _ ?_ ?_ <;> simp only [] <;> omega

/-- A block of the frequencies is all of them. -/
theorem freq_blk (t : Fin cfg0.N) (A : FVec Ideal S1x128 .f32) (n : Fin 128) :
    ((cfg0.win 1).blk t).view.read (Elt Ideal) A (ix2 0 n) = A (ix2 0 n) := by
  show A (((cfg0.win 1).blk t).view.emb _) = _
  congr 1
  blk_ext [idx t]

/-- A block of the positions is sixteen of its rows. -/
theorem pos_blk (t : Fin cfg0.N) (A : IVec S256x128 32) (a : Fin 16) (b : Fin 128) :
    ((cfg0.win 0).blk t).view.read (Elt Ideal) A (ix2 a b) = A (ix2 ⟨t.val * 16 + a.val, by have := t.isLt; change t.val < 16 at this; omega⟩ b) := by
  show A (((cfg0.win 0).blk t).view.emb _) = _
  congr 1
  blk_ext [idx t]

/-- The frequency block at a point. -/
theorem freq_use (c : Dev nD) (t : Fin cfg0.N) (n : Fin 128) :
    iblk m c 1 t (ix2 0 n) = Cert.RotaryReferenceIdeal.Read.val_main_v9 (F := Ideal) (ix1 ⟨n.val % 32, by omega⟩) :=
  (freq_blk t (V m c (Pipeline.arrRef spec0 1)) n).trans ((congrFun (freq_in m c) _).trans (freqs_apply n))

/-- The position block at a point: row `t * 2048 + a * 128 + b` of the flattened positions. -/
theorem pos_use (c : Dev nD) (t : Fin cfg0.N) (a : Fin 16) (b : Fin 128) :
    iblk m c 0 t (ix2 a b) = m ((c : Thread nD τ).loc main_arg0)
      (ix2 ⟨((t.val * 16 + a.val) * 128 + b.val) / 8192, by have := t.isLt; change t.val < 16 at this; omega⟩
        ⟨((t.val * 16 + a.val) * 128 + b.val) % 8192, by omega⟩) :=
  (pos_blk t (V m c (Pipeline.arrRef spec0 0)) a b).trans ((congrFun (pos_in m c) _).trans (pos_row _ _ b))

/-- The cosine table: every position's angles, the thirty-two repeated over the lane groups. -/
def G0 (x : IVec S4x8192 32) : FVec Ideal S32768x128 .f32 := fun i =>
  Ideal.cos (angle (x (ix2 ⟨(i 0).val / 8192, by have := (i 0).isLt; show _ < 4; change (i 0).val < 32768 at this; omega⟩
    ⟨(i 0).val % 8192, by show _ < 8192; omega⟩)) ⟨(i 1).val % 32, by omega⟩)

/-- The sine table: the same angles' sines, the even lane groups negated. -/
def G1 (x : IVec S4x8192 32) : FVec Ideal S32768x128 .f32 := fun i =>
  signed (i 1) (Ideal.sin (angle (x (ix2 ⟨(i 0).val / 8192, by have := (i 0).isLt; show _ < 4; change (i 0).val < 32768 at this; omega⟩
    ⟨(i 0).val % 8192, by show _ < 8192; omega⟩)) ⟨(i 1).val % 32, by omega⟩))

/-- The angle a point's block holds at row `y`, lane `l` is the angle of its place in the array. -/
theorem angle_use (c : Dev nD) (t : Fin cfg0.N) (y : Fin 2048) (l : Fin 128) :
    FloatOps.sitofp (F := Ideal) .f32 (iblk m c 0 t (ix2 ⟨y.val / 128, by omega⟩ ⟨y.val % 128, by omega⟩))
        * iblk m c 1 t (ix2 0 ⟨32 * (y.val / 512) + l.val % 32, by omega⟩)
      = angle (m ((c : Thread nD τ).loc main_arg0)
          (ix2 ⟨(t.val * 2048 + y.val) / 8192, by have := t.isLt; change t.val < 16 at this; omega⟩ ⟨(t.val * 2048 + y.val) % 8192, by omega⟩))
        ⟨l.val % 32, by omega⟩ := by
  rw [freq_use, pos_use]
  unfold angle
  have h : ∀ (x : IVec S4x8192 32) (p p' : Fin 4) (q q' : Fin 8192), p.val = p'.val → q.val = q'.val → x (ix2 p q) = x (ix2 p' q') :=
    fun x p p' q q' e1 e2 => by rw [Fin.ext e1, Fin.ext e2]
  have hf : ∀ (x : FVec Ideal S32 .f32) (p p' : Fin 32), p.val = p'.val → x (ix1 p) = x (ix1 p') :=
    fun x p p' e1 => by rw [Fin.ext e1]
  congr 1
  · congr 1
    refine h _ _ _ _ _ ?_ ?_ <;> simp only [] <;> omega
  · refine hf _ _ _ ?_
    simp only []; omega

/-- What a point leaves in its cosine block is the table at the block's place. -/
theorem point0 (c : Dev nD) (t : Fin cfg0.N) (y : S2048x128.Idx) :
    out0_5 (F := Ideal) (iblk m c 0 t) (iblk m c 1 t) (iblk m c 2 t) (iblk m c 3 t) (iblk m c 4 t) y = G0 (m ((c : Thread nD τ).loc main_arg0)) (((cfg0.win 5).blk t).view.emb y) := by
  obtain ⟨r, l, rfl⟩ : ∃ (r : Fin 2048) (l : Fin 128), y = ix2 r l := ⟨y 0, y 1, eq_ix2 y⟩
  have e : G0 (m ((c : Thread nD τ).loc main_arg0)) (((cfg0.win 5).blk t).view.emb (ix2 r l)) = G0 (m ((c : Thread nD τ).loc main_arg0)) (ix2 ⟨t.val * 2048 + r.val, by have := t.isLt; change t.val < 16 at this; omega⟩ l) := by
    blk_ext [idx t]
  rw [e]
  refine (out5_apply (iblk m c 0 t) (iblk m c 1 t) (iblk m c 2 t) (iblk m c 3 t) (iblk m c 4 t) r l).trans ?_
  rw [angle_use]
  rfl

/-- The cosine table after the run. -/
theorem final0 (c : Dev nD) : (dats m 0 c).arrAt 5 (cfgs 0).N = G0 (m ((c : Thread nD τ).loc main_arg0)) := by
  refine (dats m 0 c).arrAt_eq_of_covers 5 _ (by decide +kernel) fun t _ y => ?_
  blk_simp
  rw [after0_5]
  exact point0 m c t y

/-- What a point leaves in its sine block is the table at the block's place. -/
theorem point1 (c : Dev nD) (t : Fin cfg0.N) (y : S2048x128.Idx) :
    out0_6 (F := Ideal) (iblk m c 0 t) (iblk m c 1 t) (iblk m c 2 t) (iblk m c 3 t) (iblk m c 4 t) y = G1 (m ((c : Thread nD τ).loc main_arg0)) (((cfg0.win 6).blk t).view.emb y) := by
  obtain ⟨r, l, rfl⟩ : ∃ (r : Fin 2048) (l : Fin 128), y = ix2 r l := ⟨y 0, y 1, eq_ix2 y⟩
  have e : G1 (m ((c : Thread nD τ).loc main_arg0)) (((cfg0.win 6).blk t).view.emb (ix2 r l)) = G1 (m ((c : Thread nD τ).loc main_arg0)) (ix2 ⟨t.val * 2048 + r.val, by have := t.isLt; change t.val < 16 at this; omega⟩ l) := by
    blk_ext [idx t]
  rw [e]
  refine (out6_apply (iblk m c 0 t) (iblk m c 1 t) (iblk m c 2 t) (iblk m c 3 t) (iblk m c 4 t) r l).trans ?_
  rw [angle_use]
  rfl

/-- The sine table after the run. -/
theorem final1 (c : Dev nD) : (dats m 0 c).arrAt 6 (cfgs 0).N = G1 (m ((c : Thread nD τ).loc main_arg0)) := by
  refine (dats m 0 c).arrAt_eq_of_covers 6 _ (by decide +kernel) fun t _ y => ?_
  blk_simp
  rw [after0_6]
  exact point1 m c t y

/-- Result 2: the first layer's weight as it is. -/
def G2 (x : FVec Ideal S2x1024x2816 .f32) : FVec Ideal S1024x2816 .bf16 := fun i => x (ix3 0 (i 0) (i 1))

/-- What a point leaves in result 2's block is the weight's block. -/
theorem point2 (c : Dev nD) (t : Fin cfg0.N) (y : S64x2816.Idx) :
    out0_7 (F := Ideal) (iblk m c 0 t) (iblk m c 1 t) (iblk m c 2 t) (iblk m c 3 t) (iblk m c 4 t) y = G2 (m ((c : Thread nD τ).loc main_arg1)) (((cfg0.win 7).blk t).view.emb y) := by
  obtain ⟨r, k, rfl⟩ : ∃ (r : Fin 64) (k : Fin 2816), y = ix2 r k := ⟨y 0, y 1, eq_ix2 y⟩
  have a : ∀ (z : Vec Ideal S1x64x2816 .f32), k0_pay3 (F := Ideal) z (ix2 r k) = z (ix3 0 r k) := fun z => by pointwise [k0_pay3]
  have e : G2 (m ((c : Thread nD τ).loc main_arg1)) (((cfg0.win 7).blk t).view.emb (ix2 r k)) = G2 (m ((c : Thread nD τ).loc main_arg1)) (ix2 ⟨t.val * 64 + r.val, by have := t.isLt; change t.val < 16 at this; omega⟩ k) := by
    blk_ext [idx t]
  rw [e]
  unfold out0_7
  rw [View.canon_unit_zero (by funext a; fin_cases a <;> rfl), a]
  unfold G2
  blk_point [iblk, V, idx t]

/-- Result 2 after the run. -/
theorem final2 (c : Dev nD) : (dats m 0 c).arrAt 7 (cfgs 0).N = G2 (m ((c : Thread nD τ).loc main_arg1)) := by
  refine (dats m 0 c).arrAt_eq_of_covers 7 _ (by decide +kernel) fun t _ y => ?_
  blk_simp
  rw [after0_7]
  exact point2 m c t y

/-- Result 3: the first layer's weight as it is. -/
def G3 (x : FVec Ideal S2x1024x2816 .f32) : FVec Ideal S1024x2816 .bf16 := fun i => x (ix3 0 (i 0) (i 1))

/-- What a point leaves in result 3's block is the weight's block. -/
theorem point3 (c : Dev nD) (t : Fin cfg0.N) (y : S64x2816.Idx) :
    out0_8 (F := Ideal) (iblk m c 0 t) (iblk m c 1 t) (iblk m c 2 t) (iblk m c 3 t) (iblk m c 4 t) y = G3 (m ((c : Thread nD τ).loc main_arg2)) (((cfg0.win 8).blk t).view.emb y) := by
  obtain ⟨r, k, rfl⟩ : ∃ (r : Fin 64) (k : Fin 2816), y = ix2 r k := ⟨y 0, y 1, eq_ix2 y⟩
  have a : ∀ (z : Vec Ideal S1x64x2816 .f32), k0_pay4 (F := Ideal) z (ix2 r k) = z (ix3 0 r k) := fun z => by pointwise [k0_pay4]
  have e : G3 (m ((c : Thread nD τ).loc main_arg2)) (((cfg0.win 8).blk t).view.emb (ix2 r k)) = G3 (m ((c : Thread nD τ).loc main_arg2)) (ix2 ⟨t.val * 64 + r.val, by have := t.isLt; change t.val < 16 at this; omega⟩ k) := by
    blk_ext [idx t]
  rw [e]
  unfold out0_8
  rw [View.canon_unit_zero (by funext a; fin_cases a <;> rfl), a]
  unfold G3
  blk_point [iblk, V, idx t]

/-- Result 3 after the run. -/
theorem final3 (c : Dev nD) : (dats m 0 c).arrAt 8 (cfgs 0).N = G3 (m ((c : Thread nD τ).loc main_arg2)) := by
  refine (dats m 0 c).arrAt_eq_of_covers 8 _ (by decide +kernel) fun t _ y => ?_
  blk_simp
  rw [after0_8]
  exact point3 m c t y

/-- Result 4: the first layer's weight as it is. -/
def G4 (x : FVec Ideal S2x2816x1024 .f32) : FVec Ideal S2816x1024 .bf16 := fun i => x (ix3 0 (i 0) (i 1))

/-- What a point leaves in result 4's block is the weight's block. -/
theorem point4 (c : Dev nD) (t : Fin cfg0.N) (y : S176x1024.Idx) :
    out0_9 (F := Ideal) (iblk m c 0 t) (iblk m c 1 t) (iblk m c 2 t) (iblk m c 3 t) (iblk m c 4 t) y = G4 (m ((c : Thread nD τ).loc main_arg3)) (((cfg0.win 9).blk t).view.emb y) := by
  obtain ⟨r, k, rfl⟩ : ∃ (r : Fin 176) (k : Fin 1024), y = ix2 r k := ⟨y 0, y 1, eq_ix2 y⟩
  have a : ∀ (z : Vec Ideal S1x176x1024 .f32), k0_pay5 (F := Ideal) z (ix2 r k) = z (ix3 0 r k) := fun z => by pointwise [k0_pay5]
  have e : G4 (m ((c : Thread nD τ).loc main_arg3)) (((cfg0.win 9).blk t).view.emb (ix2 r k)) = G4 (m ((c : Thread nD τ).loc main_arg3)) (ix2 ⟨t.val * 176 + r.val, by have := t.isLt; change t.val < 16 at this; omega⟩ k) := by
    blk_ext [idx t]
  rw [e]
  unfold out0_9
  rw [View.canon_unit_zero (by funext a; fin_cases a <;> rfl), a]
  unfold G4
  blk_point [iblk, V, idx t]

/-- Result 4 after the run. -/
theorem final4 (c : Dev nD) : (dats m 0 c).arrAt 9 (cfgs 0).N = G4 (m ((c : Thread nD τ).loc main_arg3)) := by
  refine (dats m 0 c).arrAt_eq_of_covers 9 _ (by decide +kernel) fun t _ y => ?_
  blk_simp
  rw [after0_9]
  exact point4 m c t y

end Cert.RotaryIdeal.Pay

end
-- ==== Proof.RotaryClaims.lean ====
module

public import proofs.«01_k».proof.Defs
public import proofs.«01_k».proof.Proof.RotaryValue
public import proofs.«01_k».proof.Proof.Gen.Rotary.Frame
public import Idealize.ShloMosaic.Lib.Quiescent

@[expose] public section

set_option maxRecDepth 16384

noncomputable section

namespace Cert.RotaryReferenceIdeal.Row

open Cert.RotaryReferenceIdeal Cert.RotaryReferenceIdeal.Gen Cert.RotaryReferenceIdeal.Read Idealize.ShloMosaic Idealize.ShloMosaic.TcCoe
open Cert.RotaryIdeal.Pay (angle signed)

/-- The angle of a position at a frequency. -/
theorem v15_apply (x : IVec S4x8192 32) (b : Fin 4) (s : Fin 8192) (f : Fin 32) :
    val_main_v15 (F := Ideal) x (ix3 b s f) = angle (x (ix2 b s)) f := by
  unfold angle
  pointwise [val_main_v15, val_main_v14, val_main_v13, val_main_v12, val_main_v11, val_main_v10]

/-- The reference's cosine table. -/
theorem ref0_apply (x : IVec S4x8192 32) (r : Fin 32768) (l : Fin 128) :
    val_main_v19 (F := Ideal) x (ix2 r l) = Ideal.cos (angle (x (ix2 ⟨r.val / 8192, by omega⟩ ⟨r.val % 8192, by omega⟩)) ⟨l.val % 32, by omega⟩) := by
  have h : ∀ (b : Fin 4) (s : Fin 8192) (f f' : Fin 32), f.val = f'.val →
      Ideal.cos (val_main_v15 (F := Ideal) x (ix3 b s f)) = Ideal.cos (val_main_v15 (F := Ideal) x (ix3 b s f')) :=
    fun b s f f' e => by rw [Fin.ext e]
  rw [← v15_apply]
  pointwise [val_main_v19, val_main_v18, val_main_v16]
  split_ifs <;> refine h _ _ _ _ ?_ <;> simp only [] <;> omega

/-- The reference's sine table. -/
theorem ref1_apply (x : IVec S4x8192 32) (r : Fin 32768) (l : Fin 128) :
    val_main_v23 (F := Ideal) x (ix2 r l) = signed l (Ideal.sin (angle (x (ix2 ⟨r.val / 8192, by omega⟩ ⟨r.val % 8192, by omega⟩)) ⟨l.val % 32, by omega⟩)) := by
  have h : ∀ (b : Fin 4) (s : Fin 8192) (f f' : Fin 32), f.val = f'.val →
      Ideal.sin (val_main_v15 (F := Ideal) x (ix3 b s f)) = Ideal.sin (val_main_v15 (F := Ideal) x (ix3 b s f')) :=
    fun b s f f' e => by rw [Fin.ext e]
  unfold signed
  rw [← v15_apply]
  by_cases hl : l.val / 32 % 2 = 0
  · rw [if_pos hl]
    pointwise [val_main_v23, val_main_v22, val_main_v21, val_main_v20, val_main_v17]
    split_ifs <;> first | (exfalso; omega) | (refine congrArg (fun z => -z) (h _ _ _ _ ?_); first | omega | (simp only []; omega))
  · rw [if_neg hl]
    pointwise [val_main_v23, val_main_v22, val_main_v21, val_main_v20, val_main_v17]
    split_ifs <;> first | (exfalso; omega) | (refine h _ _ _ _ ?_; first | omega | (simp only []; omega))

/-- Result 2: the first layer's weight as it is. -/
theorem ref2_apply (x : FVec Ideal S2x1024x2816 .f32) (r : Fin 1024) (c : Fin 2816) :
    val_main_v26 (F := Ideal) x (ix2 r c) = x (ix3 0 r c) := by
  pointwise [val_main_v26, val_main_v25, val_main_v24]

/-- Result 3: the first layer's weight as it is. -/
theorem ref3_apply (x : FVec Ideal S2x1024x2816 .f32) (r : Fin 1024) (c : Fin 2816) :
    val_main_v29 (F := Ideal) x (ix2 r c) = x (ix3 0 r c) := by
  pointwise [val_main_v29, val_main_v28, val_main_v27]

/-- Result 4: the first layer's weight as it is. -/
theorem ref4_apply (x : FVec Ideal S2x2816x1024 .f32) (r : Fin 2816) (c : Fin 1024) :
    val_main_v32 (F := Ideal) x (ix2 r c) = x (ix3 0 r c) := by
  pointwise [val_main_v32, val_main_v31, val_main_v30]

end Cert.RotaryReferenceIdeal.Row

namespace Cert.Proof.RotaryClaims

open Idealize.ShloMosaic Idealize.ShloMosaic.TcCoe Idealize.SL.Sem

/-- Result 0, both sides. -/
theorem ref_eq0 (x : IVec Cert.RotaryIdeal.S4x8192 32) : Cert.RotaryReferenceIdeal.Read.val_main_v19 (F := Ideal) x = Cert.RotaryIdeal.Pay.G0 x := by
  funext i
  obtain ⟨r, k, rfl⟩ : ∃ (r : Fin 32768) (k : Fin 128), i = ix2 r k := ⟨i 0, i 1, eq_ix2 i⟩
  exact Cert.RotaryReferenceIdeal.Row.ref0_apply x r k

/-- Result 1, both sides. -/
theorem ref_eq1 (x : IVec Cert.RotaryIdeal.S4x8192 32) : Cert.RotaryReferenceIdeal.Read.val_main_v23 (F := Ideal) x = Cert.RotaryIdeal.Pay.G1 x := by
  funext i
  obtain ⟨r, k, rfl⟩ : ∃ (r : Fin 32768) (k : Fin 128), i = ix2 r k := ⟨i 0, i 1, eq_ix2 i⟩
  exact Cert.RotaryReferenceIdeal.Row.ref1_apply x r k

/-- Result 2, both sides. -/
theorem ref_eq2 (x : FVec Ideal Cert.RotaryIdeal.S2x1024x2816 .f32) : Cert.RotaryReferenceIdeal.Read.val_main_v26 (F := Ideal) x = Cert.RotaryIdeal.Pay.G2 x := by
  funext i
  obtain ⟨r, k, rfl⟩ : ∃ (r : Fin 1024) (k : Fin 2816), i = ix2 r k := ⟨i 0, i 1, eq_ix2 i⟩
  exact Cert.RotaryReferenceIdeal.Row.ref2_apply x r k

/-- Result 3, both sides. -/
theorem ref_eq3 (x : FVec Ideal Cert.RotaryIdeal.S2x1024x2816 .f32) : Cert.RotaryReferenceIdeal.Read.val_main_v29 (F := Ideal) x = Cert.RotaryIdeal.Pay.G3 x := by
  funext i
  obtain ⟨r, k, rfl⟩ : ∃ (r : Fin 1024) (k : Fin 2816), i = ix2 r k := ⟨i 0, i 1, eq_ix2 i⟩
  exact Cert.RotaryReferenceIdeal.Row.ref3_apply x r k

/-- Result 4, both sides. -/
theorem ref_eq4 (x : FVec Ideal Cert.RotaryIdeal.S2x2816x1024 .f32) : Cert.RotaryReferenceIdeal.Read.val_main_v32 (F := Ideal) x = Cert.RotaryIdeal.Pay.G4 x := by
  funext i
  obtain ⟨r, k, rfl⟩ : ∃ (r : Fin 2816) (k : Fin 1024), i = ix2 r k := ⟨i 0, i 1, eq_ix2 i⟩
  exact Cert.RotaryReferenceIdeal.Row.ref4_apply x r k

/-- The kernel ends, its arguments unchanged. -/
theorem frame_p : Cert.quiescent_Rotary := fun m ρ _ => Cert.Rotary.Gen.frame m ρ
/-- The idealized kernel ends, its arguments unchanged. -/
theorem frame_pi : Cert.quiescent_RotaryIdeal := fun m ρ _ => Cert.RotaryIdeal.Gen.frame m ρ
/-- The reference ends, its arguments unchanged. -/
theorem frame_ri : Cert.quiescent_RotaryReferenceIdeal := fun m ρ _ =>
  (θ_run Cert.RotaryReferenceIdeal.defs _ _).mono (fun r h => ⟨fun c => (h c).2.2.2.2.2,
      Idealize.ShloMosaic.sem_eq_zero_of_no_sems (by decide) r.2⟩)
    (Cert.RotaryReferenceIdeal.Value.run (F := Ideal) m ρ)
/-- The idealization rewrote nothing. -/
theorem preserves : Cert.preserves_Rotary_RotaryIdeal := trivial

/-- The call's idealization and the reference end with the same arrays: the two tables and the weights. -/
theorem algebraic : Cert.algebraic_RotaryIdeal_RotaryReferenceIdeal := by
  intro m ρ m' ρ' _ hagree
  refine ⟨fun c => Cert.RotaryIdeal.Pay.G0 (m ((c.tc : Thread Cert.RotaryIdeal.nD Cert.RotaryIdeal.τ).loc Cert.RotaryIdeal.main_arg0)),
    fun c => Cert.RotaryIdeal.Pay.G1 (m ((c.tc : Thread Cert.RotaryIdeal.nD Cert.RotaryIdeal.τ).loc Cert.RotaryIdeal.main_arg0)),
    fun c => Cert.RotaryIdeal.Pay.G2 (m ((c.tc : Thread Cert.RotaryIdeal.nD Cert.RotaryIdeal.τ).loc Cert.RotaryIdeal.main_arg1)),
    fun c => Cert.RotaryIdeal.Pay.G3 (m ((c.tc : Thread Cert.RotaryIdeal.nD Cert.RotaryIdeal.τ).loc Cert.RotaryIdeal.main_arg2)),
    fun c => Cert.RotaryIdeal.Pay.G4 (m ((c.tc : Thread Cert.RotaryIdeal.nD Cert.RotaryIdeal.τ).loc Cert.RotaryIdeal.main_arg3)),
    ?_, ?_⟩
  · refine (θ_run Cert.RotaryIdeal.defs _ _).mono (fun _ h c => ?_) (Cert.RotaryIdeal.Value.run_blocks (F := Ideal) m ρ)
    obtain ⟨h0, h1, h2, h3, h4, ha⟩ := h c
    exact ⟨h0.trans (Cert.RotaryIdeal.Pay.final0 m c), h1.trans (Cert.RotaryIdeal.Pay.final1 m c), h2.trans (Cert.RotaryIdeal.Pay.final2 m c), h3.trans (Cert.RotaryIdeal.Pay.final3 m c), h4.trans (Cert.RotaryIdeal.Pay.final4 m c), ha⟩
  · refine (θ_run Cert.RotaryReferenceIdeal.defs _ _).mono (fun _ h c => ?_) (Cert.RotaryReferenceIdeal.Value.run (F := Ideal) m' ρ')
    obtain ⟨h0, h1, h2, h3, h4, ha⟩ := h c
    obtain ⟨e0, e1, e2, e3⟩ := hagree c
    refine ⟨h0.trans ?_, h1.trans ?_, h2.trans ?_, h3.trans ?_, h4.trans ?_, ha⟩
    · rw [Cert.RotaryReferenceIdeal.Read.val_main_v19_eq, e0]
      exact ref_eq0 _
    · rw [Cert.RotaryReferenceIdeal.Read.val_main_v23_eq, e0]
      exact ref_eq1 _
    · rw [Cert.RotaryReferenceIdeal.Read.val_main_v26_eq, e1]
      exact ref_eq2 _
    · rw [Cert.RotaryReferenceIdeal.Read.val_main_v29_eq, e2]
      exact ref_eq3 _
    · rw [Cert.RotaryReferenceIdeal.Read.val_main_v32_eq, e3]
      exact ref_eq4 _

end Cert.Proof.RotaryClaims

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.FfnClaims
public import proofs.«01_k».proof.Proof.FfnFirstClaims
public import proofs.«01_k».proof.Proof.FfnSecondClaims
public import proofs.«01_k».proof.Proof.MemoryClaims
public import proofs.«01_k».proof.Proof.RotaryClaims
public import Idealize.ShloMosaic.Lib.Quiescent

@[expose] public section

noncomputable section

namespace Cert.Proof

open Idealize.ShloMosaic Idealize.ShloMosaic.TcCoe Idealize.SL.Sem

/-- The mixing kernel ends, its arguments unchanged. -/
theorem mix_frame_p : Cert.quiescent_Kernel := fun m ρ _ => Cert.Kernel.Gen.frame m ρ

/-- The idealized mixing kernel ends, its arguments unchanged. -/
theorem mix_frame_pi : Cert.quiescent_KernelIdeal := fun m ρ _ => Cert.KernelIdeal.Gen.frame m ρ

/-- The mixing reference ends, its arguments unchanged. -/
theorem mix_frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The four constants named in the mixing call: each is its float's value rounded from the real it stands for. -/
theorem mix_preserves : Cert.preserves_Kernel_KernelIdeal :=
  ⟨IdealRules.named_const.statement Cert.KernelIdeal.κ "qscale" .f32 0x3E38AA3B#32 (((1 / 8) * (Real.log 2)⁻¹ : ℝ) : EReal) rfl,
   IdealRules.named_const.statement Cert.KernelIdeal.κ "mask" .f32 0xF149F2CA#32 ⊥ rfl,
   IdealRules.named_const.statement Cert.KernelIdeal.κ "log2e" .f32 0x3FB8AA3B#32 (((Real.log 2)⁻¹ : ℝ) : EReal) rfl,
   IdealRules.named_const.statement Cert.KernelIdeal.κ "xscale" .f32 0x3DB8AA3B#32 (((1 / 16) * (Real.log 2)⁻¹ : ℝ) : EReal) rfl⟩

/-- Everything the certificate claims. -/
theorem claim : Cert.Claim :=
  ⟨Cert.Kernel.Gen.facts, Cert.KernelIdeal.Gen.facts, Cert.ReferenceIdeal.Gen.facts, Cert.Ffn.Gen.facts,
    Cert.FfnIdeal.Gen.facts, Cert.FfnReferenceIdeal.Gen.facts, Cert.FfnFirst.Gen.facts, Cert.FfnFirstIdeal.Gen.facts,
    Cert.FfnFirstReferenceIdeal.Gen.facts, Cert.FfnSecond.Gen.facts, Cert.FfnSecondIdeal.Gen.facts, Cert.FfnSecondReferenceIdeal.Gen.facts,
    Cert.Memory.Gen.facts, Cert.MemoryIdeal.Gen.facts, Cert.MemoryReferenceIdeal.Gen.facts,
    Cert.Rotary.Gen.facts, Cert.RotaryIdeal.Gen.facts, Cert.RotaryReferenceIdeal.Gen.facts,
    mix_frame_p, mix_frame_pi, mix_frame_ri, FfnClaims.frame_p, FfnClaims.frame_pi, FfnClaims.frame_ri,
    FfnFirstClaims.frame_p, FfnFirstClaims.frame_pi, FfnFirstClaims.frame_ri,
    FfnSecondClaims.frame_p, FfnSecondClaims.frame_pi, FfnSecondClaims.frame_ri,
    MemoryClaims.frame_p, MemoryClaims.frame_pi, MemoryClaims.frame_ri,
    RotaryClaims.frame_p, RotaryClaims.frame_pi, RotaryClaims.frame_ri,
    mix_preserves, FfnClaims.preserves, FfnClaims.algebraic, FfnFirstClaims.preserves, FfnFirstClaims.algebraic,
    FfnSecondClaims.preserves, FfnSecondClaims.algebraic,
    MemoryClaims.preserves, MemoryClaims.algebraic, RotaryClaims.preserves, RotaryClaims.algebraic⟩

end Cert.Proof

end
